-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x5120 : Shape := ⟨3, ![2, 128, 5120]⟩
abbrev S2x128 : Shape := ⟨2, ![2, 128]⟩
abbrev S2x128x27648 : Shape := ⟨3, ![2, 128, 27648]⟩
abbrev S5120x27648 : Shape := ⟨2, ![5120, 27648]⟩
abbrev S27648 : Shape := ⟨1, ![27648]⟩
abbrev S5120x16 : Shape := ⟨2, ![5120, 16]⟩
abbrev S16x27648 : Shape := ⟨2, ![16, 27648]⟩
abbrev S2 : Shape := ⟨1, ![2]⟩
abbrev S_ : Shape := ⟨0, ![]⟩

class Facts : Prop where
  natLt_8_32 : 8 < 32
  bcast_S_S2x128x5120 : S_.BroadcastsInDim S2x128x5120 (![] : Fin 0 → Fin S2x128x5120.rank)
  bcast_S_S2x128 : S_.BroadcastsInDim S2x128 (![] : Fin 0 → Fin S2x128.rank)
  bcast_S_S2x128x27648 : S_.BroadcastsInDim S2x128x27648 (![] : Fin 0 → Fin S2x128x27648.rank)
  bcast_S_S5120x16 : S_.BroadcastsInDim S5120x16 (![] : Fin 0 → Fin S5120x16.rank)
  bcast_S_S16x27648 : S_.BroadcastsInDim S16x27648 (![] : Fin 0 → Fin S16x27648.rank)
  bcast_S_S2 : S_.BroadcastsInDim S2 (![] : Fin 0 → Fin S2.rank)

variable [Facts]

def fn_part1 {F : FTy → Type} [FloatOps F] (main_arg7 : FVec F S16x27648 .bf16) (main_arg8 : IVec S2 32) (main_v4 : IVec S2x128x5120 1) (main_v7 : IVec S2x128 1) (main_v12 : IVec S2x128x27648 1) (main_v15 : IVec S2x128 1) (main_v16 : FVec F S5120x16 .bf16) (main_cst_4 : FVec F S_ .bf16) : IVec S2x128x5120 1 × IVec S2x128 1 × IVec S2x128x27648 1 × IVec S2x128 1 × IVec S5120x16 1 × IVec S16x27648 1 × IVec S2 1 :=
  let main_v17 : FVec F S5120x16 .bf16 := broadcastInDim S5120x16 ![] bcast_S_S5120x16 main_cst_4
  let main_v18 : IVec S5120x16 1 := cmpf .olt main_v16 main_v17
  let main_v19 : FVec F S16x27648 .bf16 := Host.absf main_arg7
  let main_cst_5 : FVec F S_ .bf16 := constant S_ .bf16 0x7F80#16
  let main_v20 : FVec F S16x27648 .bf16 := broadcastInDim S16x27648 ![] bcast_S_S16x27648 main_cst_5
  let main_v21 : IVec S16x27648 1 := cmpf .olt main_v19 main_v20
  let main_c_6 : IVec S_ 32 := constantI S_ 32 128#32
  let main_v22 : IVec S2 32 := broadcastInDim S2 ![] bcast_S_S2 main_c_6
  let main_v23 : IVec S2 1 := cmpi .sle main_arg8 main_v22
  (main_v4, main_v7, main_v12, main_v15, main_v18, main_v21, main_v23)

def fn {F : FTy → Type} [FloatOps F] (main_arg0 : IVec S2x128x5120 8) (main_arg1 : FVec F S2x128 .f32) (main_arg2 : IVec S2x128x27648 8) (main_arg3 : FVec F S2x128 .f32) (main_arg4 : IVec S5120x27648 8) (main_arg5 : FVec F S27648 .f32) (main_arg6 : FVec F S5120x16 .bf16) (main_arg7 : FVec F S16x27648 .bf16) (main_arg8 : IVec S2 32) : IVec S2x128x5120 1 × IVec S2x128 1 × IVec S2x128x27648 1 × IVec S2x128 1 × IVec S5120x16 1 × IVec S16x27648 1 × IVec S2 1 :=
  let main_v0 : IVec S2x128x5120 32 := (extui 32 · natLt_8_32) main_arg0
  let main_c : IVec S_ 32 := constantI S_ 32 127#32
  let main_v1 : IVec S2x128x5120 32 := broadcastInDim S2x128x5120 ![] bcast_S_S2x128x5120 main_c
  let main_v2 : IVec S2x128x5120 32 := andi main_v0 main_v1
  let main_c_0 : IVec S_ 32 := constantI S_ 32 127#32
  let main_v3 : IVec S2x128x5120 32 := broadcastInDim S2x128x5120 ![] bcast_S_S2x128x5120 main_c_0
  let main_v4 : IVec S2x128x5120 1 := cmpi .ne main_v2 main_v3
  let main_v5 : FVec F S2x128 .f32 := Host.absf main_arg1
  let main_cst : FVec F S_ .f32 := constant S_ .f32 0x7F800000#32
  let main_v6 : FVec F S2x128 .f32 := broadcastInDim S2x128 ![] bcast_S_S2x128 main_cst
  let main_v7 : IVec S2x128 1 := cmpf .olt main_v5 main_v6
  let main_v8 : IVec S2x128x27648 32 := (extui 32 · natLt_8_32) main_arg2
  let main_c_1 : IVec S_ 32 := constantI S_ 32 124#32
  let main_v9 : IVec S2x128x27648 32 := broadcastInDim S2x128x27648 ![] bcast_S_S2x128x27648 main_c_1
  let main_v10 : IVec S2x128x27648 32 := andi main_v8 main_v9
  let main_c_2 : IVec S_ 32 := constantI S_ 32 124#32
  let main_v11 : IVec S2x128x27648 32 := broadcastInDim S2x128x27648 ![] bcast_S_S2x128x27648 main_c_2
  let main_v12 : IVec S2x128x27648 1 := cmpi .ne main_v10 main_v11
  let main_v13 : FVec F S2x128 .f32 := Host.absf main_arg3
  let main_cst_3 : FVec F S_ .f32 := constant S_ .f32 0x7F800000#32
  let main_v14 : FVec F S2x128 .f32 := broadcastInDim S2x128 ![] bcast_S_S2x128 main_cst_3
  let main_v15 : IVec S2x128 1 := cmpf .olt main_v13 main_v14
  let main_v16 : FVec F S5120x16 .bf16 := Host.absf main_arg6
  let main_cst_4 : FVec F S_ .bf16 := constant S_ .bf16 0x7F80#16
  fn_part1 (F := F) main_arg7 main_arg8 main_v4 main_v7 main_v12 main_v15 main_v16 main_cst_4
-- ==== Kernel.lean ====
abbrev S2x128x5120 : Shape := ⟨3, ![2, 128, 5120]⟩
abbrev S2x128 : Shape := ⟨2, ![2, 128]⟩
abbrev S2x128x27648 : Shape := ⟨3, ![2, 128, 27648]⟩
abbrev S5120x27648 : Shape := ⟨2, ![5120, 27648]⟩
abbrev S27648 : Shape := ⟨1, ![27648]⟩
abbrev S5120x16 : Shape := ⟨2, ![5120, 16]⟩
abbrev S16x27648 : Shape := ⟨2, ![16, 27648]⟩
abbrev S2 : Shape := ⟨1, ![2]⟩
abbrev S256x5120 : Shape := ⟨2, ![256, 5120]⟩
abbrev S1x256 : Shape := ⟨2, ![1, 256]⟩
abbrev S256x27648 : Shape := ⟨2, ![256, 27648]⟩
abbrev S1x27648 : Shape := ⟨2, ![1, 27648]⟩
abbrev S2x128x16 : Shape := ⟨3, ![2, 128, 16]⟩
abbrev S256x512 : Shape := ⟨2, ![256, 512]⟩
abbrev S5120x512 : Shape := ⟨2, ![5120, 512]⟩
abbrev S1x512 : Shape := ⟨2, ![1, 512]⟩
abbrev S16x512 : Shape := ⟨2, ![16, 512]⟩
abbrev S16x256 : Shape := ⟨2, ![16, 256]⟩
abbrev S48x256 : Shape := ⟨2, ![48, 256]⟩
abbrev S1 : Shape := ⟨1, ![1]⟩
abbrev S16x5120 : Shape := ⟨2, ![16, 5120]⟩
abbrev S256x16 : Shape := ⟨2, ![256, 16]⟩
abbrev S512x512 : Shape := ⟨2, ![512, 512]⟩
abbrev S48x512 : Shape := ⟨2, ![48, 512]⟩
abbrev S48x5120 : Shape := ⟨2, ![48, 5120]⟩
abbrev S256x48 : Shape := ⟨2, ![256, 48]⟩
abbrev S5120x48 : Shape := ⟨2, ![5120, 48]⟩
abbrev S8x256 : Shape := ⟨2, ![8, 256]⟩
abbrev S256x8 : Shape := ⟨2, ![256, 8]⟩
abbrev S256x1 : Shape := ⟨2, ![256, 1]⟩

abbrev nBuf : Space → Nat
  | .hbm => 21
  | .vmem => 21
  | .smem => 1
  | _ => 0

abbrev bufTy : (tb : Table) → Fin (tcTables nBuf tb) → BufTy
  | .hbm, ⟨0, _⟩ => ⟨S2x128x5120, .i8⟩
  | .hbm, ⟨1, _⟩ => ⟨S2x128, .f32⟩
  | .hbm, ⟨2, _⟩ => ⟨S2x128x27648, .i8⟩
  | .hbm, ⟨3, _⟩ => ⟨S2x128, .f32⟩
  | .hbm, ⟨4, _⟩ => ⟨S5120x27648, .i8⟩
  | .hbm, ⟨5, _⟩ => ⟨S27648, .f32⟩
  | .hbm, ⟨6, _⟩ => ⟨S5120x16, .bf16⟩
  | .hbm, ⟨7, _⟩ => ⟨S16x27648, .bf16⟩
  | .hbm, ⟨8, _⟩ => ⟨S2x128x5120, .fp8e4m3⟩
  | .hbm, ⟨9, _⟩ => ⟨S2x128x27648, .fp8e5m2⟩
  | .hbm, ⟨10, _⟩ => ⟨S5120x27648, .fp8e4m3⟩
  | .hbm, ⟨11, _⟩ => ⟨S256x5120, .fp8e4m3⟩
  | .hbm, ⟨12, _⟩ => ⟨S1x256, .f32⟩
  | .hbm, ⟨13, _⟩ => ⟨S256x27648, .fp8e5m2⟩
  | .hbm, ⟨14, _⟩ => ⟨S1x256, .f32⟩
  | .hbm, ⟨15, _⟩ => ⟨S1x27648, .f32⟩
  | .hbm, ⟨16, _⟩ => ⟨S2x128x5120, .bf16⟩
  | .hbm, ⟨17, _⟩ => ⟨S5120x16, .f32⟩
  | .hbm, ⟨18, _⟩ => ⟨S16x27648, .f32⟩
  | .hbm, ⟨19, _⟩ => ⟨S2x128x16, .f32⟩
  | .hbm, ⟨20, _⟩ => ⟨S2x128x16, .f32⟩
  | .local _ .vmem, ⟨0, _⟩ => ⟨S256x5120, .fp8e4m3⟩
  | .local _ .vmem, ⟨1, _⟩ => ⟨S1x256, .f32⟩
  | .local _ .vmem, ⟨2, _⟩ => ⟨S256x512, .fp8e5m2⟩
  | .local _ .vmem, ⟨3, _⟩ => ⟨S256x512, .fp8e5m2⟩
  | .local _ .vmem, ⟨4, _⟩ => ⟨S1x256, .f32⟩
  | .local _ .vmem, ⟨5, _⟩ => ⟨S5120x512, .fp8e4m3⟩
  | .local _ .vmem, ⟨6, _⟩ => ⟨S5120x512, .fp8e4m3⟩
  | .local _ .vmem, ⟨7, _⟩ => ⟨S1x512, .f32⟩
  | .local _ .vmem, ⟨8, _⟩ => ⟨S1x512, .f32⟩
  | .local _ .vmem, ⟨9, _⟩ => ⟨S5120x16, .bf16⟩
  | .local _ .vmem, ⟨10, _⟩ => ⟨S16x512, .bf16⟩
  | .local _ .vmem, ⟨11, _⟩ => ⟨S16x512, .bf16⟩
  | .local _ .vmem, ⟨12, _⟩ => ⟨S2x128x5120, .bf16⟩
  | .local _ .vmem, ⟨13, _⟩ => ⟨S5120x16, .f32⟩
  | .local _ .vmem, ⟨14, _⟩ => ⟨S16x512, .f32⟩
  | .local _ .vmem, ⟨15, _⟩ => ⟨S16x512, .f32⟩
  | .local _ .vmem, ⟨16, _⟩ => ⟨S2x128x16, .f32⟩
  | .local _ .vmem, ⟨17, _⟩ => ⟨S2x128x16, .f32⟩
  | .local _ .vmem, ⟨18, _⟩ => ⟨S256x5120, .f32⟩
  | .local _ .vmem, ⟨19, _⟩ => ⟨S16x256, .f32⟩
  | .local _ .vmem, ⟨20, _⟩ => ⟨S48x256, .bf16⟩
  | .local _ .smem, ⟨0, _⟩ => ⟨S2, .i32⟩
  | _, _ => ⟨S2x128x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_arg8 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![54], ![false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c53_i32 : BitVec 32 := 53#32
  let v128 : BitVec 1 := Scalar.cmpi .eq arg0 c53_i32
  let v129 : BitVec 32 := Scalar.extui v128
  let c0_i32_84 : BitVec 32 := 0#32
  let v130 : BitVec 1 := Scalar.cmpi .ne v129 c0_i32_84
  v130

def k0_cond1 (i : grid0.Coords) : BitVec 1 :=
  let arg0 : BitVec 32 := BitVec.ofNat 32 (i 0).val
  let c0_i32_4 : BitVec 32 := 0#32
  let v20 : BitVec 1 := Scalar.cmpi .eq arg0 c0_i32_4
  let v21 : BitVec 32 := Scalar.extui v20
  let c0_i32_5 : BitVec 32 := 0#32
  let v22 : BitVec 1 := Scalar.cmpi .ne v21 c0_i32_5
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5120x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S5120x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2x128x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5120x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x128x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x128x5120 : Shape := ⟨3, ![2, 128, 5120]⟩
abbrev S2x128 : Shape := ⟨2, ![2, 128]⟩
abbrev S2x128x27648 : Shape := ⟨3, ![2, 128, 27648]⟩
abbrev S5120x27648 : Shape := ⟨2, ![5120, 27648]⟩
abbrev S27648 : Shape := ⟨1, ![27648]⟩
abbrev S5120x16 : Shape := ⟨2, ![5120, 16]⟩
abbrev S16x27648 : Shape := ⟨2, ![16, 27648]⟩
abbrev S2 : Shape := ⟨1, ![2]⟩
abbrev S128 : Shape := ⟨1, ![128]⟩
abbrev S1x128 : Shape := ⟨2, ![1, 128]⟩
abbrev S2x1 : Shape := ⟨2, ![2, 1]⟩
abbrev S2x128x1 : Shape := ⟨3, ![2, 128, 1]⟩
abbrev S2x128x16 : Shape := ⟨3, ![2, 128, 16]⟩
abbrev S1x27648 : Shape := ⟨2, ![1, 27648]⟩
abbrev S_ : Shape := ⟨0, ![]⟩

abbrev nBuf : Space → Nat
  | .hbm => 68
  | .vmem => 6
  | .smem => 0
  | _ => 0

abbrev bufTy : (tb : Table) → Fin (tcTables nBuf tb) → BufTy
  | .hbm, ⟨0, _⟩ => ⟨S2x128x5120, .i8⟩
  | .hbm, ⟨1, _⟩ => ⟨S2x128, .f32⟩
  | .hbm, ⟨2, _⟩ => ⟨S2x128x27648, .i8⟩
  | .hbm, ⟨3, _⟩ => ⟨S2x128, .f32⟩
  | .hbm, ⟨4, _⟩ => ⟨S5120x27648, .i8⟩
  | .hbm, ⟨5, _⟩ => ⟨S27648, .f32⟩
  | .hbm, ⟨6, _⟩ => ⟨S5120x16, .bf16⟩
  | .hbm, ⟨7, _⟩ => ⟨S16x27648, .bf16⟩
  | .hbm, ⟨8, _⟩ => ⟨S2, .i32⟩
  | .hbm, ⟨9, _⟩ => ⟨S2x128x5120, .fp8e4m3⟩
  | .hbm, ⟨10, _⟩ => ⟨S2x128x27648, .fp8e5m2⟩
  | .hbm, ⟨11, _⟩ => ⟨S5120x27648, .fp8e4m3⟩
  | .hbm, ⟨12, _⟩ => ⟨S2x128x5120, .bf16⟩
  | .hbm, ⟨13, _⟩ => ⟨S2x128x27648, .bf16⟩
  | .hbm, ⟨14, _⟩ => ⟨S5120x27648, .bf16⟩
  | .hbm, ⟨15, _⟩ => ⟨S128, .i32⟩
  | .hbm, ⟨16, _⟩ => ⟨S1x128, .i32⟩
  | .hbm, ⟨17, _⟩ => ⟨S2x1, .i32⟩
  | .hbm, ⟨18, _⟩ => ⟨S2x128, .i32⟩
  | .hbm, ⟨19, _⟩ => ⟨S2x128, .i32⟩
  | .hbm, ⟨20, _⟩ => ⟨S2x128, .i1⟩
  | .hbm, ⟨21, _⟩ => ⟨S2x128, .f32⟩
  | .hbm, ⟨22, _⟩ => ⟨S2x128x1, .f32⟩
  | .hbm, ⟨23, _⟩ => ⟨S2x128x16, .f32⟩
  | .hbm, ⟨24, _⟩ => ⟨S2x128x1, .f32⟩
  | .hbm, ⟨25, _⟩ => ⟨S2x128x16, .f32⟩
  | .hbm, ⟨26, _⟩ => ⟨S2x128x16, .f32⟩
  | .hbm, ⟨27, _⟩ => ⟨S2x128x16, .f32⟩
  | .hbm, ⟨28, _⟩ => ⟨S2x128x16, .f32⟩
  | .hbm, ⟨29, _⟩ => ⟨S2x128x16, .f32⟩
  | .hbm, ⟨30, _⟩ => ⟨S2x128x1, .f32⟩
  | .hbm, ⟨31, _⟩ => ⟨S2x128x16, .f32⟩
  | .hbm, ⟨32, _⟩ => ⟨S2x128x16, .f32⟩
  | .hbm, ⟨33, _⟩ => ⟨S2x128x16, .f32⟩
  | .hbm, ⟨34, _⟩ => ⟨S2x128x16, .f32⟩
  | .hbm, ⟨35, _⟩ => ⟨S27648, .bf16⟩
  | .hbm, ⟨36, _⟩ => ⟨S1x27648, .bf16⟩
  | .hbm, ⟨37, _⟩ => ⟨S5120x27648, .bf16⟩
  | .hbm, ⟨38, _⟩ => ⟨S5120x27648, .bf16⟩
  | .hbm, ⟨39, _⟩ => ⟨S2x128x5120, .f32⟩
  | .hbm, ⟨40, _⟩ => ⟨S2x128x1, .f32⟩
  | .hbm, ⟨41, _⟩ => ⟨S2x128x5120, .f32⟩
  | .hbm, ⟨42, _⟩ => ⟨S2x128x5120, .f32⟩
  | .hbm, ⟨43, _⟩ => ⟨S5120x16, .f32⟩
  | .hbm, ⟨44, _⟩ => ⟨S2x128x5120, .f32⟩
  | .hbm, ⟨45, _⟩ => ⟨S_, .f32⟩
  | .hbm, ⟨46, _⟩ => ⟨S2x128x5120, .f32⟩
  | .hbm, ⟨47, _⟩ => ⟨S2x128x5120, .f32⟩
  | .hbm, ⟨48, _⟩ => ⟨S2x128x5120, .f32⟩
  | .hbm, ⟨49, _⟩ => ⟨S2x128x5120, .f32⟩
  | .hbm, ⟨50, _⟩ => ⟨S2x128x5120, .f32⟩
  | .hbm, ⟨51, _⟩ => ⟨S2x128x5120, .bf16⟩
  | .hbm, ⟨52, _⟩ => ⟨S2x128x5120, .f32⟩
  | .hbm, ⟨53, _⟩ => ⟨S2x128x1, .f32⟩
  | .hbm, ⟨54, _⟩ => ⟨S2x128x16, .f32⟩
  | .hbm, ⟨55, _⟩ => ⟨S2x128x16, .f32⟩
  | .hbm, ⟨56, _⟩ => ⟨S5120x16, .f32⟩
  | .hbm, ⟨57, _⟩ => ⟨S_, .f32⟩
  | .hbm, ⟨58, _⟩ => ⟨S5120x16, .f32⟩
  | .hbm, ⟨59, _⟩ => ⟨S5120x16, .f32⟩
  | .hbm, ⟨60, _⟩ => ⟨S2x128x1, .f32⟩
  | .hbm, ⟨61, _⟩ => ⟨S2x128x16, .f32⟩
  | .hbm, ⟨62, _⟩ => ⟨S2x128x16, .f32⟩
  | .hbm, ⟨63, _⟩ => ⟨S2x128x27648, .f32⟩
  | .hbm, ⟨64, _⟩ => ⟨S16x27648, .f32⟩
  | .hbm, ⟨65, _⟩ => ⟨S_, .f32⟩
  | .hbm, ⟨66, _⟩ => ⟨S16x27648, .f32⟩
  | .hbm, ⟨67, _⟩ => ⟨S16x27648, .f32⟩
  | .local _ .vmem, ⟨0, _⟩ => ⟨S2x128x5120, .fp8e4m3⟩
  | .local _ .vmem, ⟨1, _⟩ => ⟨S2x128x27648, .fp8e5m2⟩
  | .local _ .vmem, ⟨2, _⟩ => ⟨S5120x27648, .fp8e4m3⟩
  | .local _ .vmem, ⟨3, _⟩ => ⟨S2x128x5120, .bf16⟩
  | .local _ .vmem, ⟨4, _⟩ => ⟨S2x128x27648, .bf16⟩
  | .local _ .vmem, ⟨5, _⟩ => ⟨S5120x27648, .bf16⟩
  | _, _ => ⟨S2x128x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_1 : Ref sig .tc := ⟨.hbm, 65, rfl⟩
abbrev main_v52 : Ref sig .tc := ⟨.hbm, 66, rfl⟩
abbrev main_v53 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2x128x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x27648 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x27648 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x5120 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x27648 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x27648 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Points.lean ====
/- The schedule's facts: the grid's points and when each output's block is written back. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%3)) is fetched at the first point only, at any contents of the tables (its index map reads none). -/
theorem fetch0_0 (a : (pcfg0 (F := F)).Adm) : ∀ t : Fin (cfg0 a).N, ((cfg0 a).win 0).fetch t = true ↔ t.val % 54 = 0 :=
  (fun t => Pipeline.Window.fetchOf_const cc0_transform_0 (fun _ _ => rfl) (n := 54) (by decide) t : ∀ t : Fin grid0.N, Pipeline.Window.fetchOf grid0 false cc0_transform_0 t = true ↔ t.val % 54 = 0)
/-- Window 1 (operand 2 (%4)) is fetched at the first point only, at any contents of the tables (its index map reads none). -/
theorem fetch0_1 (a : (pcfg0 (F := F)).Adm) : ∀ t : Fin (cfg0 a).N, ((cfg0 a).win 1).fetch t = true ↔ t.val % 54 = 0 :=
  (fun t => Pipeline.Window.fetchOf_const cc0_transform_1 (fun _ _ => rfl) (n := 54) (by decide) t : ∀ t : Fin grid0.N, Pipeline.Window.fetchOf grid0 false cc0_transform_1 t = true ↔ t.val % 54 = 0)
/-- Window 2 (operand 3 (%5)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 1 (fun _ => rfl) (by decide)) (P := 1) (by decide) t).mpr (Nat.mod_one _) : ∀ t : Fin grid0.N, Pipeline.Window.fetchOf grid0 false cc0_transform_2 t = true)
/-- Window 3 (operand 4 (%6)) is fetched at the first point only, at any contents of the tables (its index map reads none). -/
theorem fetch0_3 (a : (pcfg0 (F := F)).Adm) : ∀ t : Fin (cfg0 a).N, ((cfg0 a).win 3).fetch t = true ↔ t.val % 54 = 0 :=
  (fun t => Pipeline.Window.fetchOf_const cc0_transform_3 (fun _ _ => rfl) (n := 54) (by decide) t : ∀ t : Fin grid0.N, Pipeline.Window.fetchOf grid0 false cc0_transform_3 t = true ↔ t.val % 54 = 0)
/-- Window 4 (operand 5 (%2)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (operand 6 (%7)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 0 (by decide) (by decide) (Pipeline.Window.sep_of_coord cc0_transform_5 0 1 (fun _ => rfl) (by decide)) (P := 1) (by decide) t).mpr (Nat.mod_one _) : ∀ t : Fin grid0.N, Pipeline.Window.fetchOf grid0 false cc0_transform_5 t = true)
/-- Window 6 (operand 7 (%arg6)) is fetched at the first point only, at any contents of the tables (its index map reads none). -/
theorem fetch0_6 (a : (pcfg0 (F := F)).Adm) : ∀ t : Fin (cfg0 a).N, ((cfg0 a).win 6).fetch t = true ↔ t.val % 54 = 0 :=
  (fun t => Pipeline.Window.fetchOf_const cc0_transform_6 (fun _ _ => rfl) (n := 54) (by decide) t : ∀ t : Fin grid0.N, Pipeline.Window.fetchOf grid0 false cc0_transform_6 t = true ↔ t.val % 54 = 0)
/-- Window 7 (operand 8 (%arg7)) is fetched at every point, at any contents of the tables (its index map reads none). -/
theorem fetch0_7 (a : (pcfg0 (F := F)).Adm) : ∀ t : Fin (cfg0 a).N, ((cfg0 a).win 7).fetch t = true :=
  (fun t => (Pipeline.Window.fetchOf_reads cc0_transform_7 reads0_7 hreads0_7 0 (by decide) (by decide) (Pipeline.Window.sep_of_coord cc0_transform_7 0 1 (fun _ => rfl) (by decide)) (P := 1) (by decide) t).mpr (Nat.mod_one _) : ∀ t : Fin grid0.N, Pipeline.Window.fetchOf grid0 false cc0_transform_7 t = true)
/-- Window 8 (result 0 (%8#0)) is written back at the last point only, at any contents of the tables (its index map reads none). -/
theorem flush0_8 (a : (pcfg0 (F := F)).Adm) : ∀ t : Fin (cfg0 a).N, ((cfg0 a).win 8).flush t = true ↔ t.val % 54 = 53 :=
  (fun t => Pipeline.Window.flushOf_const cc0_transform_8 (fun _ _ => rfl) (n := 54) (by decide) rfl t : ∀ t : Fin grid0.N, Pipeline.Window.flushOf grid0 true cc0_transform_8 t = true ↔ t.val % 54 = 53)
/-- Window 9 (result 1 (%8#1)) is written back at the last point only, at any contents of the tables (its index map reads none). -/
theorem flush0_9 (a : (pcfg0 (F := F)).Adm) : ∀ t : Fin (cfg0 a).N, ((cfg0 a).win 9).flush t = true ↔ t.val % 54 = 53 :=
  (fun t => Pipeline.Window.flushOf_const cc0_transform_9 (fun _ _ => rfl) (n := 54) (by decide) rfl t : ∀ t : Fin grid0.N, Pipeline.Window.flushOf grid0 true cc0_transform_9 t = true ↔ t.val % 54 = 53)
/-- Window 10 (result 2 (%8#2)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 1 (fun _ => rfl) (by decide)) (P := 1) (m := 0) (by decide) rfl t).mpr (Nat.mod_one _) : ∀ t : Fin grid0.N, Pipeline.Window.flushOf grid0 true cc0_transform_10 t = true)
/-- Window 11 (result 3 (%8#3)) is written back at the last point only, at any contents of the tables (its index map reads none). -/
theorem flush0_11 (a : (pcfg0 (F := F)).Adm) : ∀ t : Fin (cfg0 a).N, ((cfg0 a).win 11).flush t = true ↔ t.val % 54 = 53 :=
  (fun t => Pipeline.Window.flushOf_const cc0_transform_11 (fun _ _ => rfl) (n := 54) (by decide) rfl t : ∀ t : Fin grid0.N, Pipeline.Window.flushOf grid0 true cc0_transform_11 t = true ↔ t.val % 54 = 53)
/-- Window 12 (result 4 (%8#4)) is written back at the last point only, at any contents of the tables (its index map reads none). -/
theorem flush0_12 (a : (pcfg0 (F := F)).Adm) : ∀ t : Fin (cfg0 a).N, ((cfg0 a).win 12).flush t = true ↔ t.val % 54 = 53 :=
  (fun t => Pipeline.Window.flushOf_const cc0_transform_12 (fun _ _ => rfl) (n := 54) (by decide) rfl t : ∀ t : Fin grid0.N, Pipeline.Window.flushOf grid0 true cc0_transform_12 t = true ↔ t.val % 54 = 53)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_lora_bwd (grid0.coords t) (Memref.whole main_arg8) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _)

end Cert.KernelIdeal.Gen

end
-- ==== Proof.Kernel.Runs.lean ====
/- The runs of the kernel's body share what this module states: the buffers as the region finds them, the windows' blocks,
   the branch conditions in closed form, where the windows are idle, the staging and scratch memrefs. It follows the text
   the generator writes for a kernel whose outputs are all stored where they are written back; output 12 (`xa`) is not:
   it is stored at the first point and written back after the last. -/
module

public import proofs.«01_k».proof.Proof.Gen.KernelIdeal.Launch
public import proofs.«01_k».proof.Proof.Gen.KernelIdeal.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2 .i32 := Memref.whole main_arg8
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).2 main_arg8 (by decide : main_arg8 ∈ Pipeline.restRefs sig spec0)).trans (V_main_arg8 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 54 = 0 :=
  (fun t => by
    have ht : t.val < 54 := Nat.lt_of_lt_of_eq t.isLt N_0
    have e0 : (grid0.coords t 0).val = t.val / 1 % 54 := Pipeline.Grid.coords_val t 0 (by decide) rfl
    simp only [cond0_0, k0_cond1, e0]
    word_cmp
   : ∀ t : Fin grid0.N, cond0_0 (grid0.coords t) ↔ t.val % 54 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin grid0.N, cond0_1 (grid0.coords t) ↔ t.val % 54 = 53 :=
  (fun t => by
    have ht : t.val < 54 := Nat.lt_of_lt_of_eq t.isLt N_0
    have e0 : (grid0.coords t 0).val = t.val / 1 % 54 := Pipeline.Grid.coords_val t 0 (by decide) rfl
    simp only [cond0_1, k0_cond2, e0]
    word_cmp
   : ∀ t : Fin grid0.N, cond0_1 (grid0.coords t) ↔ t.val % 54 = 53)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-- Window 7 is never idle (an input). -/
theorem liveAt0_7 (hO : Ok m) : ∀ t : Fin (cfgM m hO).N, (cfgM m hO).idle 7 (grid0.coords t) = false :=
  (fun _ => rfl : ∀ t : Fin grid0.N, idle0 7 (grid0.coords t) = false)
/-- Window 10 is never idle (an output stored at every point, under no condition). -/
theorem liveAt0_10 (hO : Ok m) : ∀ t : Fin (cfgM m hO).N, (cfgM m hO).idle 10 (grid0.coords t) = false :=
  (fun _ => rfl : ∀ t : Fin grid0.N, idle0 10 (grid0.coords t) = false)
/-- At the points of case A the printed configuration (`Cfg.idle`) calls output 8 idle: the case stores nothing into it. -/
theorem idleAt0_8_A (hO : Ok m) : ∀ t : Fin (cfgM m hO).N, cond0_0 (grid0.coords t) → ¬cond0_1 (grid0.coords t) → (cfgM m hO).idle 8 (grid0.coords t) = true :=
  (by decide +kernel : ∀ t : Fin grid0.N, cond0_0 (grid0.coords t) → ¬cond0_1 (grid0.coords t) → idle0 8 (grid0.coords t) = true)
/-- At the points of case A the pipeline does not write output 8's block back. -/
theorem noFlush0_8_A (hO : Ok m) : ∀ t : Fin (cfgM m hO).N, cond0_0 (grid0.coords t) → ¬cond0_1 (grid0.coords t) → ((cfgM m hO).win 8).flush t = false :=
  (by decide +kernel : ∀ t : Fin grid0.N, cond0_0 (grid0.coords t) → ¬cond0_1 (grid0.coords t) → Pipeline.Window.flushOf grid0 true cc0_transform_8 t = false)
/-- At the points of case B the printed configuration (`Cfg.idle`) calls output 8 idle: the case stores nothing into it. -/
theorem idleAt0_8_B (hO : Ok m) : ∀ t : Fin (cfgM m hO).N, ¬cond0_0 (grid0.coords t) → ¬cond0_1 (grid0.coords t) → (cfgM m hO).idle 8 (grid0.coords t) = true :=
  (by decide +kernel : ∀ t : Fin grid0.N, ¬cond0_0 (grid0.coords t) → ¬cond0_1 (grid0.coords t) → idle0 8 (grid0.coords t) = true)
/-- At the points of case B the pipeline does not write output 8's block back. -/
theorem noFlush0_8_B (hO : Ok m) : ∀ t : Fin (cfgM m hO).N, ¬cond0_0 (grid0.coords t) → ¬cond0_1 (grid0.coords t) → ((cfgM m hO).win 8).flush t = false :=
  (by decide +kernel : ∀ t : Fin grid0.N, ¬cond0_0 (grid0.coords t) → ¬cond0_1 (grid0.coords t) → Pipeline.Window.flushOf grid0 true cc0_transform_8 t = false)
/-- At the points of case C the printed configuration (`Cfg.idle`) calls output 8 live: the case stores into it. -/
theorem liveAt0_8_C (hO : Ok m) : ∀ t : Fin (cfgM m hO).N, ¬cond0_0 (grid0.coords t) → cond0_1 (grid0.coords t) → (cfgM m hO).idle 8 (grid0.coords t) = false :=
  (by decide +kernel : ∀ t : Fin grid0.N, ¬cond0_0 (grid0.coords t) → cond0_1 (grid0.coords t) → idle0 8 (grid0.coords t) = false)
/-- At the points of case A the printed configuration (`Cfg.idle`) calls output 9 idle: the case stores nothing into it. -/
theorem idleAt0_9_A (hO : Ok m) : ∀ t : Fin (cfgM m hO).N, cond0_0 (grid0.coords t) → ¬cond0_1 (grid0.coords t) → (cfgM m hO).idle 9 (grid0.coords t) = true :=
  (by decide +kernel : ∀ t : Fin grid0.N, cond0_0 (grid0.coords t) → ¬cond0_1 (grid0.coords t) → idle0 9 (grid0.coords t) = true)
/-- At the points of case A the pipeline does not write output 9's block back. -/
theorem noFlush0_9_A (hO : Ok m) : ∀ t : Fin (cfgM m hO).N, cond0_0 (grid0.coords t) → ¬cond0_1 (grid0.coords t) → ((cfgM m hO).win 9).flush t = false :=
  (by decide +kernel : ∀ t : Fin grid0.N, cond0_0 (grid0.coords t) → ¬cond0_1 (grid0.coords t) → Pipeline.Window.flushOf grid0 true cc0_transform_9 t = false)
/-- At the points of case B the printed configuration (`Cfg.idle`) calls output 9 idle: the case stores nothing into it. -/
theorem idleAt0_9_B (hO : Ok m) : ∀ t : Fin (cfgM m hO).N, ¬cond0_0 (grid0.coords t) → ¬cond0_1 (grid0.coords t) → (cfgM m hO).idle 9 (grid0.coords t) = true :=
  (by decide +kernel : ∀ t : Fin grid0.N, ¬cond0_0 (grid0.coords t) → ¬cond0_1 (grid0.coords t) → idle0 9 (grid0.coords t) = true)
/-- At the points of case B the pipeline does not write output 9's block back. -/
theorem noFlush0_9_B (hO : Ok m) : ∀ t : Fin (cfgM m hO).N, ¬cond0_0 (grid0.coords t) → ¬cond0_1 (grid0.coords t) → ((cfgM m hO).win 9).flush t = false :=
  (by decide +kernel : ∀ t : Fin grid0.N, ¬cond0_0 (grid0.coords t) → ¬cond0_1 (grid0.coords t) → Pipeline.Window.flushOf grid0 true cc0_transform_9 t = false)
/-- At the points of case C the printed configuration (`Cfg.idle`) calls output 9 live: the case stores into it. -/
theorem liveAt0_9_C (hO : Ok m) : ∀ t : Fin (cfgM m hO).N, ¬cond0_0 (grid0.coords t) → cond0_1 (grid0.coords t) → (cfgM m hO).idle 9 (grid0.coords t) = false :=
  (by decide +kernel : ∀ t : Fin grid0.N, ¬cond0_0 (grid0.coords t) → cond0_1 (grid0.coords t) → idle0 9 (grid0.coords t) = false)
/-- At the points of case A the printed configuration (`Cfg.idle`) calls output 11 idle: the case stores nothing into it. -/
theorem idleAt0_11_A (hO : Ok m) : ∀ t : Fin (cfgM m hO).N, cond0_0 (grid0.coords t) → ¬cond0_1 (grid0.coords t) → (cfgM m hO).idle 11 (grid0.coords t) = true :=
  (by decide +kernel : ∀ t : Fin grid0.N, cond0_0 (grid0.coords t) → ¬cond0_1 (grid0.coords t) → idle0 11 (grid0.coords t) = true)
/-- At the points of case A the pipeline does not write output 11's block back. -/
theorem noFlush0_11_A (hO : Ok m) : ∀ t : Fin (cfgM m hO).N, cond0_0 (grid0.coords t) → ¬cond0_1 (grid0.coords t) → ((cfgM m hO).win 11).flush t = false :=
  (by decide +kernel : ∀ t : Fin grid0.N, cond0_0 (grid0.coords t) → ¬cond0_1 (grid0.coords t) → Pipeline.Window.flushOf grid0 true cc0_transform_11 t = false)
/-- At the points of case B the printed configuration (`Cfg.idle`) calls output 11 idle: the case stores nothing into it. -/
theorem idleAt0_11_B (hO : Ok m) : ∀ t : Fin (cfgM m hO).N, ¬cond0_0 (grid0.coords t) → ¬cond0_1 (grid0.coords t) → (cfgM m hO).idle 11 (grid0.coords t) = true :=
  (by decide +kernel : ∀ t : Fin grid0.N, ¬cond0_0 (grid0.coords t) → ¬cond0_1 (grid0.coords t) → idle0 11 (grid0.coords t) = true)
/-- At the points of case B the pipeline does not write output 11's block back. -/
theorem noFlush0_11_B (hO : Ok m) : ∀ t : Fin (cfgM m hO).N, ¬cond0_0 (grid0.coords t) → ¬cond0_1 (grid0.coords t) → ((cfgM m hO).win 11).flush t = false :=
  (by decide +kernel : ∀ t : Fin grid0.N, ¬cond0_0 (grid0.coords t) → ¬cond0_1 (grid0.coords t) → Pipeline.Window.flushOf grid0 true cc0_transform_11 t = false)
/-- At the points of case C the printed configuration (`Cfg.idle`) calls output 11 live: the case stores into it. -/
theorem liveAt0_11_C (hO : Ok m) : ∀ t : Fin (cfgM m hO).N, ¬cond0_0 (grid0.coords t) → cond0_1 (grid0.coords t) → (cfgM m hO).idle 11 (grid0.coords t) = false :=
  (by decide +kernel : ∀ t : Fin grid0.N, ¬cond0_0 (grid0.coords t) → cond0_1 (grid0.coords t) → idle0 11 (grid0.coords t) = false)
/-- At the points of case A the printed configuration (`Cfg.idle`) calls output 12 live: the case stores into it. -/
theorem liveAt0_12_A (hO : Ok m) : ∀ t : Fin (cfgM m hO).N, cond0_0 (grid0.coords t) → ¬cond0_1 (grid0.coords t) → (cfgM m hO).idle 12 (grid0.coords t) = false :=
  (by decide +kernel : ∀ t : Fin grid0.N, cond0_0 (grid0.coords t) → ¬cond0_1 (grid0.coords t) → idle0 12 (grid0.coords t) = false)
/-- At the points of case B the printed configuration (`Cfg.idle`) calls output 12 idle: the case stores nothing into it. -/
theorem idleAt0_12_B (hO : Ok m) : ∀ t : Fin (cfgM m hO).N, ¬cond0_0 (grid0.coords t) → ¬cond0_1 (grid0.coords t) → (cfgM m hO).idle 12 (grid0.coords t) = true :=
  (by decide +kernel : ∀ t : Fin grid0.N, ¬cond0_0 (grid0.coords t) → ¬cond0_1 (grid0.coords t) → idle0 12 (grid0.coords t) = true)
/-- At the points of case B the pipeline does not write output 12's block back. -/
theorem noFlush0_12_B (hO : Ok m) : ∀ t : Fin (cfgM m hO).N, ¬cond0_0 (grid0.coords t) → ¬cond0_1 (grid0.coords t) → ((cfgM m hO).win 12).flush t = false :=
  (by decide +kernel : ∀ t : Fin grid0.N, ¬cond0_0 (grid0.coords t) → ¬cond0_1 (grid0.coords t) → Pipeline.Window.flushOf grid0 true cc0_transform_12 t = false)
/-- At the last point the printed configuration calls output 12 idle: the body stores into it at the first point only. -/
theorem idleAt0_12_C (hO : Ok m) : ∀ t : Fin (cfgM m hO).N, ¬cond0_0 (grid0.coords t) → cond0_1 (grid0.coords t) → (cfgM m hO).idle 12 (grid0.coords t) = true :=
  (by decide +kernel : ∀ t : Fin grid0.N, ¬cond0_0 (grid0.coords t) → cond0_1 (grid0.coords t) → idle0 12 (grid0.coords t) = true)
/-- The last point is where the pipeline writes output 12's block back. -/
theorem flush0_12_C (hO : Ok m) : ∀ t : Fin (cfgM m hO).N, ¬cond0_0 (grid0.coords t) → cond0_1 (grid0.coords t) → ((cfgM m hO).win 12).flush t = true :=
  (by decide +kernel : ∀ t : Fin grid0.N, ¬cond0_0 (grid0.coords t) → cond0_1 (grid0.coords t) → Pipeline.Window.flushOf grid0 true cc0_transform_12 t = true)
/-- The first point does not write output 12's block back. -/
theorem noFlush0_12_A (hO : Ok m) : ∀ t : Fin (cfgM m hO).N, cond0_0 (grid0.coords t) → ¬cond0_1 (grid0.coords t) → ((cfgM m hO).win 12).flush t = false :=
  (by decide +kernel : ∀ t : Fin grid0.N, cond0_0 (grid0.coords t) → ¬cond0_1 (grid0.coords t) → Pipeline.Window.flushOf grid0 true cc0_transform_12 t = false)

/-! ## The kernel body on any staging memrefs: a subtype the run finds -/

/-- One staging buffer of output window 8, through which its contents are stated (`View.read_writes_of_cover`: the
    choice does not matter). -/
abbrev VO0_8 : View sig .tc .vmem S2x128x5120 .bf16 := (Memref.whole cc0_stg8_0 : Memref sig .tc .vmem S2x128x5120 .bf16).view
/-- One staging buffer of output window 9, through which its contents are stated (`View.read_writes_of_cover`: the
    choice does not matter). -/
abbrev VO0_9 : View sig .tc .vmem S5120x16 .f32 := (Memref.whole cc0_stg9_0 : Memref sig .tc .vmem S5120x16 .f32).view
/-- One staging buffer of output window 10, through which its contents are stated (`View.read_writes_of_cover`: the
    choice does not matter). -/
abbrev VO0_10 : View sig .tc .vmem S16x512 .f32 := (Memref.whole cc0_stg10_0 : Memref sig .tc .vmem S16x512 .f32).view
/-- One staging buffer of output window 11, through which its contents are stated (`View.read_writes_of_cover`: the
    choice does not matter). -/
abbrev VO0_11 : View sig .tc .vmem S2x128x16 .f32 := (Memref.whole cc0_stg11_0 : Memref sig .tc .vmem S2x128x16 .f32).view
/-- One staging buffer of output window 12, through which its contents are stated (`View.read_writes_of_cover`: the
    choice does not matter). -/
abbrev VO0_12 : View sig .tc .vmem S2x128x16 .f32 := (Memref.whole cc0_stg12_0 : Memref sig .tc .vmem S2x128x16 .f32).view
/-- Each window's current staging memref at point `t`, spelled as the pipeline passes it (`bodyAt0`), and its wholeness. -/
abbrev ms0_0 (hO : Ok m) (t : Fin (cfgM m hO).N) : Memref sig .tc .vmem S256x5120 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x512 .fp8e5m2 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S5120x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S5120x16 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S16x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x128x5120 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S5120x16 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S16x512 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S2x128x16 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S2x128x16 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S256x5120 .f32 := Memref.whole cc0_scratch0
abbrev scM0_1 : Memref sig .tc .vmem S16x256 .f32 := Memref.whole cc0_scratch1
abbrev scM0_2 : Memref sig .tc .vmem S48x256 .bf16 := Memref.whole cc0_scratch2
/-- The scratch `arg15` the kernel carries between points, as a view: what it holds is stated through it. -/
abbrev VS0_0 : View sig .tc .vmem S256x5120 .f32 := scM0_0.view
/-- The scratch `arg16` the kernel carries between points, as a view: what it holds is stated through it. -/
abbrev VS0_1 : View sig .tc .vmem S16x256 .f32 := scM0_1.view
/-- The scratch `arg17` the kernel carries between points, as a view: what it holds is stated through it. -/
abbrev VS0_2 : View sig .tc .vmem S48x256 .bf16 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.Kernel.RunA.lean ====
/- The kernel body run at the points of case A: what its stores leave in each buffer, as pieces the run finds. -/
module

public import proofs.«01_k».proof.Proof.Kernel.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (8, 9, 11: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S256x5120 .fp8e4m3) (harg2 : arg2.IsWhole) (arg3 : Memref sig .tc .vmem S1x256 .f32) (harg3 : arg3.IsWhole) (arg4 : Memref sig .tc .vmem S256x512 .fp8e5m2) (harg4 : arg4.IsWhole) (arg5 : Memref sig .tc .vmem S1x256 .f32) (harg5 : arg5.IsWhole) (arg6 : Memref sig .tc .vmem S5120x512 .fp8e4m3) (harg6 : arg6.IsWhole) (arg7 : Memref sig .tc .vmem S1x512 .f32) (harg7 : arg7.IsWhole) (arg8 : Memref sig .tc .vmem S5120x16 .bf16) (harg8 : arg8.IsWhole) (arg9 : Memref sig .tc .vmem S16x512 .bf16) (harg9 : arg9.IsWhole) (arg10 : Memref sig .tc .vmem S2x128x5120 .bf16) (harg10 : arg10.IsWhole) (arg11 : Memref sig .tc .vmem S5120x16 .f32) (harg11 : arg11.IsWhole) (arg12 : Memref sig .tc .vmem S16x512 .f32) (harg12 : arg12.IsWhole) (arg13 : Memref sig .tc .vmem S2x128x16 .f32) (harg13 : arg13.IsWhole) (arg14 : Memref sig .tc .vmem S2x128x16 .f32) (harg14 : arg14.IsWhole) (arg15 : Memref sig .tc .vmem S256x5120 .f32) (harg15 : arg15.IsWhole) (arg16 : Memref sig .tc .vmem S16x256 .f32) (harg16 : arg16.IsWhole) (arg17 : Memref sig .tc .vmem S48x256 .bf16) (harg17 : arg17.IsWhole) (hc0 : cond0_0 i) (hc1 : ¬cond0_1 i)
    (x0 : Vec F S256x5120 .fp8e4m3) (x1 : Vec F S1x256 .f32) (x2 : Vec F S256x512 .fp8e5m2) (x3 : Vec F S1x256 .f32) (x4 : Vec F S5120x512 .fp8e4m3) (x5 : Vec F S1x512 .f32) (x6 : Vec F S5120x16 .bf16) (x7 : Vec F S16x512 .bf16) (xt0 : TbBuf0 (F := F) c tbM0_0) :
    Σ' (L8 : List (View.Piece (Elt F) S2x128x5120 .bf16)), Σ' (L9 : List (View.Piece (Elt F) S5120x16 .f32)), Σ' (L10 : List (View.Piece (Elt F) S16x512 .f32)), Σ' (L11 : List (View.Piece (Elt F) S2x128x16 .f32)), Σ' (L12 : List (View.Piece (Elt F) S2x128x16 .f32)), Σ' (LS0 : List (View.Piece (Elt F) S256x5120 .f32)), Σ' (LS1 : List (View.Piece (Elt F) S16x256 .f32)), { LS2 : List (View.Piece (Elt F) S48x256 .bf16) //
      ∀ (xi8 : Vec F S2x128x5120 .bf16) (xi9 : Vec F S5120x16 .f32) (xi11 : Vec F S2x128x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ owns (c : Thread nD τ) arg13 fullShare xi11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ owns (c : Thread nD τ) arg13 fullShare xi11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ f, arg17.view.loc (c : Thread nD τ) ↦[arg17.view.set]{fullShare} arg17.view.writes (Elt F) f LS2) ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, [], ?_, ?_, ?_, ?_, fun xi8 xi9 xi11 E K => ?run⟩
  case run =>
    simp only [cc0_lora_bwd_eq_skeleton]; unfold cc0_lora_bwd_skel
    simp only [k0_part3_eq_skeleton, k0_part1_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%d12, %f12, -, H12⟩, ⟨%ds0, %fs0, -, HS0⟩, ⟨%ds1, %fs1, -, HS1⟩, ⟨%ds2, %fs2, -, HS2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [H12]; · iexists _; iexact H12
    isplitl [HS0]; · iexists _; iexact HS0
    isplitl [HS1]; · iexists _; iexact HS1
    isplitl [HS2]; · iexists _; iexact HS2
    iexact HT0

end Cert.KernelIdeal.Gen

end
-- ==== Proof.Kernel.RunB.lean ====
/- The kernel body run at the points of case B: what its stores leave in each buffer, as pieces the run finds. -/
module

public import proofs.«01_k».proof.Proof.Kernel.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 52: 52 of 54), WITH the
    proof that on whole staging memrefs — the inputs' at their contents, the outputs it leaves idle (8, 9, 11, 12: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S256x5120 .fp8e4m3) (harg2 : arg2.IsWhole) (arg3 : Memref sig .tc .vmem S1x256 .f32) (harg3 : arg3.IsWhole) (arg4 : Memref sig .tc .vmem S256x512 .fp8e5m2) (harg4 : arg4.IsWhole) (arg5 : Memref sig .tc .vmem S1x256 .f32) (harg5 : arg5.IsWhole) (arg6 : Memref sig .tc .vmem S5120x512 .fp8e4m3) (harg6 : arg6.IsWhole) (arg7 : Memref sig .tc .vmem S1x512 .f32) (harg7 : arg7.IsWhole) (arg8 : Memref sig .tc .vmem S5120x16 .bf16) (harg8 : arg8.IsWhole) (arg9 : Memref sig .tc .vmem S16x512 .bf16) (harg9 : arg9.IsWhole) (arg10 : Memref sig .tc .vmem S2x128x5120 .bf16) (harg10 : arg10.IsWhole) (arg11 : Memref sig .tc .vmem S5120x16 .f32) (harg11 : arg11.IsWhole) (arg12 : Memref sig .tc .vmem S16x512 .f32) (harg12 : arg12.IsWhole) (arg13 : Memref sig .tc .vmem S2x128x16 .f32) (harg13 : arg13.IsWhole) (arg14 : Memref sig .tc .vmem S2x128x16 .f32) (harg14 : arg14.IsWhole) (arg15 : Memref sig .tc .vmem S256x5120 .f32) (harg15 : arg15.IsWhole) (arg16 : Memref sig .tc .vmem S16x256 .f32) (harg16 : arg16.IsWhole) (arg17 : Memref sig .tc .vmem S48x256 .bf16) (harg17 : arg17.IsWhole) (hc0 : ¬cond0_0 i) (hc1 : ¬cond0_1 i)
    (x0 : Vec F S256x5120 .fp8e4m3) (x1 : Vec F S1x256 .f32) (x2 : Vec F S256x512 .fp8e5m2) (x3 : Vec F S1x256 .f32) (x4 : Vec F S5120x512 .fp8e4m3) (x5 : Vec F S1x512 .f32) (x6 : Vec F S5120x16 .bf16) (x7 : Vec F S16x512 .bf16) (xt0 : TbBuf0 (F := F) c tbM0_0) (xs0 : Vec F S256x5120 .f32) (xs1 : Vec F S16x256 .f32) (xs2 : Vec F S48x256 .bf16) :
    Σ' (L8 : List (View.Piece (Elt F) S2x128x5120 .bf16)), Σ' (L9 : List (View.Piece (Elt F) S5120x16 .f32)), Σ' (L10 : List (View.Piece (Elt F) S16x512 .f32)), Σ' (L11 : List (View.Piece (Elt F) S2x128x16 .f32)), Σ' (L12 : List (View.Piece (Elt F) S2x128x16 .f32)), Σ' (LS0 : List (View.Piece (Elt F) S256x5120 .f32)), Σ' (LS1 : List (View.Piece (Elt F) S16x256 .f32)), { LS2 : List (View.Piece (Elt F) S48x256 .bf16) //
      ∀ (xi8 : Vec F S2x128x5120 .bf16) (xi9 : Vec F S5120x16 .f32) (xi11 : Vec F S2x128x16 .f32) (xi12 : Vec F S2x128x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ d, owns (c : Thread nD τ) arg12 fullShare d) ∗ owns (c : Thread nD τ) arg13 fullShare xi11 ∗ owns (c : Thread nD τ) arg14 fullShare xi12 ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (∃ f, arg12.view.loc (c : Thread nD τ) ↦[arg12.view.set]{fullShare} arg12.view.writes (Elt F) f L10) ∗ owns (c : Thread nD τ) arg13 fullShare xi11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, [], [], ?_, ?_, [], fun xi8 xi9 xi11 xi12 E K => ?run⟩
  case run =>
    simp only [cc0_lora_bwd_eq_skeleton]; unfold cc0_lora_bwd_skel
    simp only [k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%fs0, %hfs0, HS0⟩, ⟨%fs1, %hfs1, HS1⟩, ⟨%fs2, %hfs2, HS2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hfs0; obtain rfl := harg16.eq_unread hfs1; obtain rfl := harg17.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    isplitl [HS1]; · iexists _; iexact HS1
    isplitl [HS2]
    · iexists _; isplitr; · ipureintro; exact harg17.read_unread _
      iexact HS2
    iexact HT0

end Cert.KernelIdeal.Gen

end
-- ==== Proof.Kernel.RunC.lean ====
/- The kernel body run at the points of case C: what its stores leave in each buffer, as pieces the run finds. -/
module

public import proofs.«01_k».proof.Proof.Kernel.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 53), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S256x5120 .fp8e4m3) (harg2 : arg2.IsWhole) (arg3 : Memref sig .tc .vmem S1x256 .f32) (harg3 : arg3.IsWhole) (arg4 : Memref sig .tc .vmem S256x512 .fp8e5m2) (harg4 : arg4.IsWhole) (arg5 : Memref sig .tc .vmem S1x256 .f32) (harg5 : arg5.IsWhole) (arg6 : Memref sig .tc .vmem S5120x512 .fp8e4m3) (harg6 : arg6.IsWhole) (arg7 : Memref sig .tc .vmem S1x512 .f32) (harg7 : arg7.IsWhole) (arg8 : Memref sig .tc .vmem S5120x16 .bf16) (harg8 : arg8.IsWhole) (arg9 : Memref sig .tc .vmem S16x512 .bf16) (harg9 : arg9.IsWhole) (arg10 : Memref sig .tc .vmem S2x128x5120 .bf16) (harg10 : arg10.IsWhole) (arg11 : Memref sig .tc .vmem S5120x16 .f32) (harg11 : arg11.IsWhole) (arg12 : Memref sig .tc .vmem S16x512 .f32) (harg12 : arg12.IsWhole) (arg13 : Memref sig .tc .vmem S2x128x16 .f32) (harg13 : arg13.IsWhole) (arg14 : Memref sig .tc .vmem S2x128x16 .f32) (harg14 : arg14.IsWhole) (arg15 : Memref sig .tc .vmem S256x5120 .f32) (harg15 : arg15.IsWhole) (arg16 : Memref sig .tc .vmem S16x256 .f32) (harg16 : arg16.IsWhole) (arg17 : Memref sig .tc .vmem S48x256 .bf16) (harg17 : arg17.IsWhole) (hc0 : ¬cond0_0 i) (hc1 : cond0_1 i)
    (x0 : Vec F S256x5120 .fp8e4m3) (x1 : Vec F S1x256 .f32) (x2 : Vec F S256x512 .fp8e5m2) (x3 : Vec F S1x256 .f32) (x4 : Vec F S5120x512 .fp8e4m3) (x5 : Vec F S1x512 .f32) (x6 : Vec F S5120x16 .bf16) (x7 : Vec F S16x512 .bf16) (xt0 : TbBuf0 (F := F) c tbM0_0) (xs0 : Vec F S256x5120 .f32) (xs1 : Vec F S16x256 .f32) (xs2 : Vec F S48x256 .bf16) :
    Σ' (L8 : List (View.Piece (Elt F) S2x128x5120 .bf16)), Σ' (L9 : List (View.Piece (Elt F) S5120x16 .f32)), Σ' (L10 : List (View.Piece (Elt F) S16x512 .f32)), Σ' (L11 : List (View.Piece (Elt F) S2x128x16 .f32)), Σ' (L12 : List (View.Piece (Elt F) S2x128x16 .f32)), Σ' (LS0 : List (View.Piece (Elt F) S256x5120 .f32)), Σ' (LS1 : List (View.Piece (Elt F) S16x256 .f32)), { LS2 : List (View.Piece (Elt F) S48x256 .bf16) //
      ∀ (xi12 : Vec F S2x128x16 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi12 ∗ owns (c : Thread nD τ) arg15 fullShare xs0 ∗ owns (c : Thread nD τ) arg16 fullShare xs1 ∗ owns (c : Thread nD τ) arg17 fullShare xs2 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ owns (c : Thread nD τ) arg17 fullShare xs2 ∗ tbPt0 c tbM0_0 xt0) -∗ K ⟨⟩))
          ⊢ wp frame (wpE (defs₀ (F := F)) Variants.none c none) E (cc0_lora_bwd i tbM0_0 htbM0_0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, [], ?_, ?_, [], fun xi12 E K => ?run⟩
  case run =>
    simp only [cc0_lora_bwd_eq_skeleton]; unfold cc0_lora_bwd_skel
    simp only [k0_part3_eq_skeleton, k0_part4_eq_skeleton, k0_part5_eq_skeleton, k0_part6_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%fs0, %hfs0, HS0⟩, ⟨%fs1, %hfs1, HS1⟩, ⟨%fs2, %hfs2, HS2⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg14.eq_unread hf12; obtain rfl := harg15.eq_unread hfs0; obtain rfl := harg16.eq_unread hfs1; obtain rfl := harg17.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]
    · iexists _; isplitr; · ipureintro; exact harg14.read_unread _
      iexact H12
    isplitl [HS0]; · iexists _; iexact HS0
    isplitl [HS1]; · iexists _; iexact HS1
    isplitl [HS2]
    · iexists _; isplitr; · ipureintro; exact harg17.read_unread _
      iexact HS2
    iexact HT0

end Cert.KernelIdeal.Gen

end
-- ==== Proof.Kernel.Outs.lean ====
/- What each case of the body leaves in the outputs' staging buffers and in the scratch, and from it what they hold after
   every point: the recursion over the points the pipeline's proof data is stated by. -/
module

public import proofs.«01_k».proof.Proof.Kernel.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Pieces

variable (c : Dev nD) (i : grid0.Coords) (arg2 : Memref sig .tc .vmem S256x5120 .fp8e4m3) (harg2 : arg2.IsWhole) (arg3 : Memref sig .tc .vmem S1x256 .f32) (harg3 : arg3.IsWhole) (arg4 : Memref sig .tc .vmem S256x512 .fp8e5m2) (harg4 : arg4.IsWhole) (arg5 : Memref sig .tc .vmem S1x256 .f32) (harg5 : arg5.IsWhole) (arg6 : Memref sig .tc .vmem S5120x512 .fp8e4m3) (harg6 : arg6.IsWhole) (arg7 : Memref sig .tc .vmem S1x512 .f32) (harg7 : arg7.IsWhole) (arg8 : Memref sig .tc .vmem S5120x16 .bf16) (harg8 : arg8.IsWhole) (arg9 : Memref sig .tc .vmem S16x512 .bf16) (harg9 : arg9.IsWhole) (arg10 : Memref sig .tc .vmem S2x128x5120 .bf16) (harg10 : arg10.IsWhole) (arg11 : Memref sig .tc .vmem S5120x16 .f32) (harg11 : arg11.IsWhole) (arg12 : Memref sig .tc .vmem S16x512 .f32) (harg12 : arg12.IsWhole) (arg13 : Memref sig .tc .vmem S2x128x16 .f32) (harg13 : arg13.IsWhole) (arg14 : Memref sig .tc .vmem S2x128x16 .f32) (harg14 : arg14.IsWhole) (arg15 : Memref sig .tc .vmem S256x5120 .f32) (harg15 : arg15.IsWhole) (arg16 : Memref sig .tc .vmem S16x256 .f32) (harg16 : arg16.IsWhole) (arg17 : Memref sig .tc .vmem S48x256 .bf16) (harg17 : arg17.IsWhole)
  (x0 : Vec F S256x5120 .fp8e4m3) (x1 : Vec F S1x256 .f32) (x2 : Vec F S256x512 .fp8e5m2) (x3 : Vec F S1x256 .f32) (x4 : Vec F S5120x512 .fp8e4m3) (x5 : Vec F S1x512 .f32) (x6 : Vec F S5120x16 .bf16) (x7 : Vec F S16x512 .bf16) (xt0 : TbBuf0 (F := F) c tbM0_0) (xs0 : Vec F S256x5120 .f32) (xs1 : Vec F S16x256 .f32) (xs2 : Vec F S48x256 .bf16) (o12 : Vec F S2x128x16 .f32)

/-- The outputs 8 to 12 and the three scratch buffers, in this order. -/
abbrev Outs (F : FTy → Type) [FloatOps F] : Type := Vec F S2x128x5120 .bf16 × Vec F S5120x16 .f32 × Vec F S16x512 .f32 × Vec F S2x128x16 .f32 × Vec F S2x128x16 .f32 × Vec F S256x5120 .f32 × Vec F S16x256 .f32 × Vec F S48x256 .bf16

/-- Case A's pieces for output 10 cover its block. -/
theorem cover0_A_10 (hc0 : cond0_0 i) (hc1 : ¬cond0_1 i) (y : S16x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.1 S16x512.size (by sl_kernel_rfl) y

/-- What case A leaves in output 10's staging buffer. -/
def out0_A_10 (hc0 : cond0_0 i) (hc1 : ¬cond0_1 i) : Vec F S16x512 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.1)

/-- Case A's pieces for output 12 cover its block. -/
theorem cover0_A_12 (hc0 : cond0_0 i) (hc1 : ¬cond0_1 i) (y : S2x128x16.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.1 S2x128x16.size (by sl_kernel_rfl) y

/-- What case A leaves in output 12's staging buffer. -/
def out0_A_12 (hc0 : cond0_0 i) (hc1 : ¬cond0_1 i) : Vec F S2x128x16 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.1)

/-- Case A's pieces for scratch 0 cover it. -/
theorem scover0_A_0 (hc0 : cond0_0 i) (hc1 : ¬cond0_1 i) (y : S256x5120.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.1 (by sl_whole_mem) y

/-- What case A leaves in scratch 0. -/
def sout0_A_0 (hc0 : cond0_0 i) (hc1 : ¬cond0_1 i) : Vec F S256x5120 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.1)

/-- Case A's pieces for scratch 1 cover it. -/
theorem scover0_A_1 (hc0 : cond0_0 i) (hc1 : ¬cond0_1 i) (y : S16x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.1 S16x256.size (by sl_kernel_rfl) y

/-- What case A leaves in scratch 1. -/
def sout0_A_1 (hc0 : cond0_0 i) (hc1 : ¬cond0_1 i) : Vec F S16x256 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.1)

/-- Case A's pieces for scratch 2 cover it. -/
theorem scover0_A_2 (hc0 : cond0_0 i) (hc1 : ¬cond0_1 i) (y : S48x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.2.1 S48x256.size (by sl_kernel_rfl) y

/-- What case A leaves in scratch 2. -/
def sout0_A_2 (hc0 : cond0_0 i) (hc1 : ¬cond0_1 i) : Vec F S48x256 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0).2.2.2.2.2.2.2.1)

/-- Case A's outputs and scratch; an output the case neither stores nor hands on is at no particular contents. -/
def outsA (hc0 : cond0_0 i) (hc1 : ¬cond0_1 i) : Outs F :=
  (VO0_8.read (Elt F) VO0_8.junk,
   VO0_9.read (Elt F) VO0_9.junk,
   out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1,
   VO0_11.read (Elt F) VO0_11.junk,
   out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1,
   sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1,
   sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1,
   sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1)

/-- Case B's pieces for output 10 cover its block. -/
theorem cover0_B_10 (hc0 : ¬cond0_0 i) (hc1 : ¬cond0_1 i) (y : S16x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1 S16x512.size (by sl_kernel_rfl) y

/-- What case B leaves in output 10's staging buffer. -/
def out0_B_10 (hc0 : ¬cond0_0 i) (hc1 : ¬cond0_1 i) : Vec F S16x512 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1)

/-- Case B's pieces for scratch 0 cover it. -/
theorem scover0_B_0 (hc0 : ¬cond0_0 i) (hc1 : ¬cond0_1 i) (y : S256x5120.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1 S256x512.size (by sl_kernel_rfl) y

/-- What case B leaves in scratch 0. -/
def sout0_B_0 (hc0 : ¬cond0_0 i) (hc1 : ¬cond0_1 i) : Vec F S256x5120 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1)

/-- Case B's pieces for scratch 1 cover it. -/
theorem scover0_B_1 (hc0 : ¬cond0_0 i) (hc1 : ¬cond0_1 i) (y : S16x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1 S16x256.size (by sl_kernel_rfl) y

/-- What case B leaves in scratch 1. -/
def sout0_B_1 (hc0 : ¬cond0_0 i) (hc1 : ¬cond0_1 i) : Vec F S16x256 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1)

/-- Case B's outputs and scratch; an output the case neither stores nor hands on is at no particular contents. -/
def outsB (hc0 : ¬cond0_0 i) (hc1 : ¬cond0_1 i) : Outs F :=
  (VO0_8.read (Elt F) VO0_8.junk,
   VO0_9.read (Elt F) VO0_9.junk,
   out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   VO0_11.read (Elt F) VO0_11.junk,
   o12,
   sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   xs2)

/-- Case C's pieces for output 8 cover its block. -/
theorem cover0_C_8 (hc0 : ¬cond0_0 i) (hc1 : cond0_1 i) (y : S2x128x5120.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).1 S2x128x5120.size (by sl_kernel_rfl) y

/-- What case C leaves in output 8's staging buffer. -/
def out0_C_8 (hc0 : ¬cond0_0 i) (hc1 : cond0_1 i) : Vec F S2x128x5120 .bf16 :=
  VO0_8.read (Elt F) (VO0_8.writes (Elt F) VO0_8.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).1)

/-- Case C's pieces for output 9 cover its block. -/
theorem cover0_C_9 (hc0 : ¬cond0_0 i) (hc1 : cond0_1 i) (y : S5120x16.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.1 S5120x16.size (by sl_kernel_rfl) y

/-- What case C leaves in output 9's staging buffer. -/
def out0_C_9 (hc0 : ¬cond0_0 i) (hc1 : cond0_1 i) : Vec F S5120x16 .f32 :=
  VO0_9.read (Elt F) (VO0_9.writes (Elt F) VO0_9.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.1)

/-- Case C's pieces for output 10 cover its block. -/
theorem cover0_C_10 (hc0 : ¬cond0_0 i) (hc1 : cond0_1 i) (y : S16x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1 S16x512.size (by sl_kernel_rfl) y

/-- What case C leaves in output 10's staging buffer. -/
def out0_C_10 (hc0 : ¬cond0_0 i) (hc1 : cond0_1 i) : Vec F S16x512 .f32 :=
  VO0_10.read (Elt F) (VO0_10.writes (Elt F) VO0_10.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.1)

/-- Case C's pieces for output 11 cover its block. -/
theorem cover0_C_11 (hc0 : ¬cond0_0 i) (hc1 : cond0_1 i) (y : S2x128x16.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.1 S2x128x16.size (by sl_kernel_rfl) y

/-- What case C leaves in output 11's staging buffer. -/
def out0_C_11 (hc0 : ¬cond0_0 i) (hc1 : cond0_1 i) : Vec F S2x128x16 .f32 :=
  VO0_11.read (Elt F) (VO0_11.writes (Elt F) VO0_11.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.1)

/-- Case C's pieces for scratch 0 cover it. -/
theorem scover0_C_0 (hc0 : ¬cond0_0 i) (hc1 : cond0_1 i) (y : S256x5120.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1 S256x512.size (by sl_kernel_rfl) y

/-- What case C leaves in scratch 0. -/
def sout0_C_0 (hc0 : ¬cond0_0 i) (hc1 : cond0_1 i) : Vec F S256x5120 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.1)

/-- Case C's pieces for scratch 1 cover it. -/
theorem scover0_C_1 (hc0 : ¬cond0_0 i) (hc1 : cond0_1 i) (y : S16x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1 S16x256.size (by sl_kernel_rfl) y

/-- What case C leaves in scratch 1. -/
def sout0_C_1 (hc0 : ¬cond0_0 i) (hc1 : cond0_1 i) : Vec F S16x256 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 xt0 xs0 xs1 xs2).2.2.2.2.2.2.1)

/-- Case C's outputs and scratch; an output the case neither stores nor hands on is at no particular contents. -/
def outsC (hc0 : ¬cond0_0 i) (hc1 : cond0_1 i) : Outs F :=
  (out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   o12,
   sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1,
   xs2)

end Pieces

/-- Case A at point `t`, on the point's memrefs and blocks. -/
def atA (hO : Ok m) (c : Dev nD) (t : Fin (cfgM m hO).N) (h0 : cond0_0 (grid0.coords t)) (h1 : ¬cond0_1 (grid0.coords t)) : Outs F :=
  outsA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (tbl m 0) h0 h1

/-- Case B at point `t`, on the point's memrefs and blocks, over what the point before left. -/
def atB (hO : Ok m) (c : Dev nD) (t : Fin (cfgM m hO).N) (h0 : ¬cond0_0 (grid0.coords t)) (h1 : ¬cond0_1 (grid0.coords t)) (p : Outs F) : Outs F :=
  outsB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (tbl m 0) p.2.2.2.2.2.1 p.2.2.2.2.2.2.1 p.2.2.2.2.2.2.2 p.2.2.2.2.1 h0 h1

/-- Case C at point `t`, on the point's memrefs and blocks, over what the point before left. -/
def atC (hO : Ok m) (c : Dev nD) (t : Fin (cfgM m hO).N) (h0 : ¬cond0_0 (grid0.coords t)) (h1 : cond0_1 (grid0.coords t)) (p : Outs F) : Outs F :=
  outsC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) scM0_0 (Memref.isWhole_whole _) scM0_1 (Memref.isWhole_whole _) scM0_2 (Memref.isWhole_whole _)
    (iblk m hO c 0 t) (iblk m hO c 1 t) (iblk m hO c 2 t) (iblk m hO c 3 t) (iblk m hO c 4 t) (iblk m hO c 5 t) (iblk m hO c 6 t) (iblk m hO c 7 t) (tbl m 0) p.2.2.2.2.2.1 p.2.2.2.2.2.2.1 p.2.2.2.2.2.2.2 p.2.2.2.2.1 h0 h1

/-- THE ACCUMULATION: what the outputs' staging buffers and the scratch hold after point `n`. Output 12 is handed on unchanged
    from the first point, where it is stored. -/
def outsAt0 (hO : Ok m) (c : Dev nD) : (n : ℕ) → n < (cfgM m hO).N → Outs F
  | 0, hn => atA m hO c ⟨0, hn⟩ ((hcond0_0 ⟨0, hn⟩).mpr (Nat.zero_mod _)) (fun h => (fun h => by (try dsimp only at h); omega) ((hcond0_1 ⟨0, hn⟩).mp h))
  | n + 1, hn =>
    have hN : n + 1 < 54 := lt_of_lt_of_eq hn (show (cfgM m hO).N = 54 from N_0)
    have h0 : ¬cond0_0 (grid0.coords ⟨n + 1, hn⟩) := fun h => (fun h => by (try dsimp only at h); omega) ((hcond0_0 ⟨n + 1, hn⟩).mp h)
    if h1 : (n + 1) % 54 = 53 then
      atC m hO c ⟨n + 1, hn⟩ h0 ((hcond0_1 ⟨n + 1, hn⟩).mpr h1) (outsAt0 hO c n (Nat.lt_of_succ_lt hn))
    else
      atB m hO c ⟨n + 1, hn⟩ h0 (fun h => h1 ((hcond0_1 ⟨n + 1, hn⟩).mp h)) (outsAt0 hO c n (Nat.lt_of_succ_lt hn))

theorem outsAt0_A (hO : Ok m) (c : Dev nD) (t : Fin (cfgM m hO).N) (h0 : t.val % 54 = 0) (h1 : ¬t.val % 54 = 53) :
    outsAt0 m hO c t.val t.isLt = atA m hO c t ((hcond0_0 t).mpr h0) (fun h => h1 ((hcond0_1 t).mp h)) := by
  obtain ⟨n, hn⟩ := t
  have hN : n < 54 := lt_of_lt_of_eq hn (show (cfgM m hO).N = 54 from N_0)
  obtain rfl : n = 0 := by dsimp only at h0; omega
  exact rfl

theorem outsAt0_B (hO : Ok m) (c : Dev nD) (t : Fin (cfgM m hO).N) (h0 : ¬t.val % 54 = 0) (h1 : ¬t.val % 54 = 53) :
    outsAt0 m hO c t.val t.isLt = atB m hO c t (fun h => h0 ((hcond0_0 t).mp h)) (fun h => h1 ((hcond0_1 t).mp h))
      (outsAt0 m hO c (t.val - 1) (Nat.lt_of_le_of_lt (Nat.sub_le _ _) t.isLt)) := by
  obtain ⟨n, hn⟩ := t
  cases n with
  | zero => exact absurd (Nat.zero_mod _) h0
  | succ n => exact (dif_neg h1).trans rfl

theorem outsAt0_C (hO : Ok m) (c : Dev nD) (t : Fin (cfgM m hO).N) (h0 : ¬t.val % 54 = 0) (h1 : t.val % 54 = 53) :
    outsAt0 m hO c t.val t.isLt = atC m hO c t (fun h => h0 ((hcond0_0 t).mp h)) ((hcond0_1 t).mpr h1)
      (outsAt0 m hO c (t.val - 1) (Nat.lt_of_le_of_lt (Nat.sub_le _ _) t.isLt)) := by
  obtain ⟨n, hn⟩ := t
  cases n with
  | zero => exact absurd (Nat.zero_mod _) h0
  | succ n => exact (dif_pos h1).trans rfl

end Cert.KernelIdeal.Gen

end
-- ==== Proof.Kernel.Body.lean ====
/- The pipeline's proof data, the body's obligation at a generic point, and the launch: the run's end states, array by array. -/
module

public import proofs.«01_k».proof.Proof.Kernel.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2.2.2.1) ∗ owns (c : Thread nD τ) scM0_1 fullShare ((outsAt0 m hO c n hn).2.2.2.2.2.2.1) ∗ owns (c : Thread nD τ) scM0_2 fullShare ((outsAt0 m hO c n hn).2.2.2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2.2.1) ∗ owns (c : Thread nD τ) scM0_1 fullShare ((outsAt0 m hO c n hn).2.2.2.2.2.2.1) ∗ owns (c : Thread nD τ) scM0_2 fullShare ((outsAt0 m hO c n hn).2.2.2.2.2.2.2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2.2.1) ∗ owns (c : Thread nD τ) scM0_1 fullShare ((outsAt0 m hO c (n - 1) (by omega)).2.2.2.2.2.2.1) ∗ owns (c : Thread nD τ) scM0_2 fullShare ((outsAt0 m hO c (n - 1) (by omega)).2.2.2.2.2.2.2)) ∗ (∃ r, prngReg c r)) ∗ Pipeline.ΦT pre0 (tbl m) c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt).1
    | ⟨9, _⟩ => (outsAt0 m hO c t.val t.isLt).2.1
    | ⟨10, _⟩ => (outsAt0 m hO c t.val t.isLt).2.2.1
    | ⟨11, _⟩ => (outsAt0 m hO c t.val t.isLt).2.2.2.1
    | ⟨12, _⟩ => (outsAt0 m hO c t.val t.isLt).2.2.2.2.1
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt).1 := by dsimp only [dats]; try rfl
theorem after0_9 (hO : Ok m) (c : Dev nD) (t : Fin (cfgM m hO).N) : (dats m hO 0 c).after 9 t = (outsAt0 m hO c t.val t.isLt).2.1 := by dsimp only [dats]; try rfl
theorem after0_10 (hO : Ok m) (c : Dev nD) (t : Fin (cfgM m hO).N) : (dats m hO 0 c).after 10 t = (outsAt0 m hO c t.val t.isLt).2.2.1 := by dsimp only [dats]; try rfl
theorem after0_11 (hO : Ok m) (c : Dev nD) (t : Fin (cfgM m hO).N) : (dats m hO 0 c).after 11 t = (outsAt0 m hO c t.val t.isLt).2.2.2.1 := by dsimp only [dats]; try rfl
theorem after0_12 (hO : Ok m) (c : Dev nD) (t : Fin (cfgM m hO).N) : (dats m hO 0 c).after 12 t = (outsAt0 m hO c t.val t.isLt).2.2.2.2.1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-- Output 12's buffer, found at any point after the first, holds what the first point stored: no point between stores into it
    or writes it back. -/
theorem before0_12 (hO : Ok m) (c : Dev nD) (d) : ∀ (n : ℕ) (hn : n + 1 < (cfgM m hO).N),
    (dats m hO 0 c).before 12 ⟨n + 1, hn⟩ d = (outsAt0 m hO c n (Nat.lt_of_succ_lt hn)).2.2.2.2.1
  | 0, hn => by
    have a0 := (hcond0_0 ⟨0, Nat.lt_of_succ_lt hn⟩).mpr (Nat.zero_mod _)
    have a1 : ¬cond0_1 (grid0.coords ⟨0, Nat.lt_of_succ_lt hn⟩) := fun h => (fun h => by (try dsimp only at h); omega) ((hcond0_1 ⟨0, Nat.lt_of_succ_lt hn⟩).mp h)
    rw [Dat.before_of_pos _ _ _ (Nat.succ_ne_zero _) rfl, if_neg]
    · show (dats m hO 0 c).left 12 ⟨0, Nat.lt_of_succ_lt hn⟩ d = _
      unfold Dat.left
      rw [liveAt0_12_A m hO ⟨0, Nat.lt_of_succ_lt hn⟩ a0 a1]
      exact after0_12 m hO c ⟨0, Nat.lt_of_succ_lt hn⟩
    · exact fun h => Bool.false_ne_true ((noFlush0_12_A m hO ⟨0, Nat.lt_of_succ_lt hn⟩ a0 a1).symm.trans h)
  | n + 1, hn => by
    have hN : n + 2 < 54 := lt_of_lt_of_eq hn (show (cfgM m hO).N = 54 from N_0)
    have b0 : ¬(⟨n + 1, Nat.lt_of_succ_lt hn⟩ : Fin (cfgM m hO).N).val % 54 = 0 := by dsimp only; omega
    have b1 : ¬(⟨n + 1, Nat.lt_of_succ_lt hn⟩ : Fin (cfgM m hO).N).val % 54 = 53 := by dsimp only; omega
    have c0 := fun h => b0 ((hcond0_0 ⟨n + 1, Nat.lt_of_succ_lt hn⟩).mp h)
    have c1 := fun h => b1 ((hcond0_1 ⟨n + 1, Nat.lt_of_succ_lt hn⟩).mp h)
    rw [Dat.before_of_pos _ _ _ (Nat.succ_ne_zero _) rfl, if_neg]
    · show (dats m hO 0 c).left 12 ⟨n + 1, Nat.lt_of_succ_lt hn⟩ d = _
      unfold Dat.left
      rw [idleAt0_12_B m hO ⟨n + 1, Nat.lt_of_succ_lt hn⟩ c0 c1]
      refine (before0_12 hO c d n (Nat.lt_of_succ_lt hn)).trans ?_
      rw [outsAt0_B m hO c ⟨n + 1, Nat.lt_of_succ_lt hn⟩ b0 b1]
      rfl
    · exact fun h => Bool.false_ne_true ((noFlush0_12_B m hO ⟨n + 1, Nat.lt_of_succ_lt hn⟩ c0 c1).symm.trans h)

theorem before0_12_pos (hO : Ok m) (c : Dev nD) (t : Fin (cfgM m hO).N) (hz : t.val ≠ 0) (d) :
    (dats m hO 0 c).before 12 t d = (outsAt0 m hO c (t.val - 1) (Nat.lt_of_le_of_lt (Nat.sub_le _ _) t.isLt)).2.2.2.2.1 := by
  obtain ⟨n, hn⟩ := t
  cases n with
  | zero => exact absurd rfl hz
  | succ n => exact before0_12 m hO c d n hn

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 54 := lt_of_lt_of_eq t.isLt (show (cfgM m hO).N = 54 from N_0)
  by_cases h0 : t.val % 54 = 0
  · by_cases h1 : t.val % 54 = 53
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [Dat.leavesExact_idle (dats m hO 0 c) 8 t (idleAt0_8_A m hO t ((hcond0_0 t).mpr h0) (fun h => h1 ((hcond0_1 t).mp h))) (noFlush0_8_A m hO t ((hcond0_0 t).mpr h0) (fun h => h1 ((hcond0_1 t).mp h)))]
      rw [Dat.leavesExact_idle (dats m hO 0 c) 9 t (idleAt0_9_A m hO t ((hcond0_0 t).mpr h0) (fun h => h1 ((hcond0_1 t).mp h))) (noFlush0_9_A m hO t ((hcond0_0 t).mpr h0) (fun h => h1 ((hcond0_1 t).mp h)))]
      rw [show (dats m hO 0 c).leavesExact 10 t = owns (c : Thread nD τ) (ms0_10 m hO t) fullShare ((dats m hO 0 c).after 10 t) from by
      unfold Dat.leavesExact; rw [liveAt0_10 m hO t]; try rfl, after0_10]
      rw [Dat.leavesExact_idle (dats m hO 0 c) 11 t (idleAt0_11_A m hO t ((hcond0_0 t).mpr h0) (fun h => h1 ((hcond0_1 t).mp h))) (noFlush0_11_A m hO t ((hcond0_0 t).mpr h0) (fun h => h1 ((hcond0_1 t).mp h)))]
      rw [show (dats m hO 0 c).leavesExact 12 t = owns (c : Thread nD τ) (ms0_12 m hO t) fullShare ((dats m hO 0 c).after 12 t) from by
      unfold Dat.leavesExact; rw [liveAt0_12_A m hO t ((hcond0_0 t).mpr h0) (fun h => h1 ((hcond0_1 t).mp h))]; try rfl, after0_12]
      by_cases hz : t.val = 0
      · rw [PhiS_castSucc m hO c t, PhiS_zero m hO c _ _ hz, PhiT0_eq, PhiA0_eq]
        rw [outsAt0_A m hO c t h0 h1]
        unfold atA outsA out0_A_10 out0_A_12 sout0_A_0 sout0_A_1 sout0_A_2; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0)).2.2.2.2.2.2.2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [H12]; · iexists _; iexact H12
        isplitl [HS0]; · iexact HS0
        isplitl [HS1]; · iexact HS1
        isplitl [HS2]; · iexact HS2
        isplitl [HT0]; · iexact HT0
        iintro ⟨H0, H1, H2, H3, H4, H5, H6, H7, H8, H9, ⟨%e10, H10⟩, H11, ⟨%e12, H12⟩, ⟨%es0, HS0⟩, ⟨%es1, HS1⟩, ⟨%es2, HS2⟩, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (fun y => scover0_A_0 (y := y) ..)
              isplitl [HS1]
              · unfold owns; iexists _; isplitr
                swap; · iexact HS1
                ipureintro; exact View.read_writes_of_cover _ _ _ _ _ (fun y => scover0_A_1 (y := y) ..)
              unfold owns; iexists _; isplitr
              swap; · iexact HS2
              ipureintro; exact View.read_writes_of_cover _ _ _ _ _ (fun y => scover0_A_2 (y := y) ..)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (fun y => cover0_A_10 (y := y) ..)
        isplitl [H11]; · iexists _; iexact H11
        unfold owns; iexists _; isplitr
        swap; · iexact H12
        ipureintro; exact View.read_writes_of_cover _ _ _ _ _ (fun y => cover0_A_12 (y := y) ..)
      · exfalso; have hN : t.val < 54 := lt_of_lt_of_eq t.isLt (show (cfgM m hO).N = 54 from N_0); omega
  · by_cases h1 : t.val % 54 = 53
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8_C m hO t (fun h => h0 ((hcond0_0 t).mp h)) ((hcond0_1 t).mpr h1)]; try rfl, after0_8]
      rw [show (dats m hO 0 c).leavesExact 9 t = owns (c : Thread nD τ) (ms0_9 m hO t) fullShare ((dats m hO 0 c).after 9 t) from by
      unfold Dat.leavesExact; rw [liveAt0_9_C m hO t (fun h => h0 ((hcond0_0 t).mp h)) ((hcond0_1 t).mpr h1)]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11_C m hO t (fun h => h0 ((hcond0_0 t).mp h)) ((hcond0_1 t).mpr h1)]; try rfl, after0_11]
      rw [show (dats m hO 0 c).leavesExact 12 t = owns (c : Thread nD τ) (ms0_12 m hO t) fullShare ((dats m hO 0 c).after 12 t) from by
      unfold Dat.leavesExact; rw [idleAt0_12_C m hO t (fun h => h0 ((hcond0_0 t).mp h)) ((hcond0_1 t).mpr h1), flush0_12_C m hO t (fun h => h0 ((hcond0_0 t).mp h)) ((hcond0_1 t).mpr h1)]; try rfl, after0_12]
      by_cases hz : t.val = 0
      · exfalso; have hN : t.val < 54 := lt_of_lt_of_eq t.isLt (show (cfgM m hO).N = 54 from N_0); omega
      · rw [PhiS_castSucc m hO c t, PhiS_pos m hO c _ _ hz, PhiT0_eq]
        rw [outsAt0_C m hO c t h0 h1]
        simp only [before0_12_pos m hO c t hz]
        unfold atC outsC out0_C_8 out0_C_9 out0_C_10 out0_C_11 sout0_C_0 sout0_C_1; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) _ _ _).2.2.2.2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        isplitl [H11]; · iexists _; iexact H11
        isplitl [H12]; · iexact H12
        isplitl [HS0]; · iexact HS0
        isplitl [HS1]; · iexact HS1
        isplitl [HS2]; · iexact HS2
        isplitl [HT0]; · iexact HT0
        iintro ⟨H0, H1, H2, H3, H4, H5, H6, H7, ⟨%e8, H8⟩, ⟨%e9, H9⟩, ⟨%e10, H10⟩, ⟨%e11, H11⟩, H12, ⟨%es0, HS0⟩, ⟨%es1, HS1⟩, HS2, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (fun y => scover0_C_0 (y := y) ..)
              isplitl [HS1]
              · unfold owns; iexists _; isplitr
                swap; · iexact HS1
                ipureintro; exact View.read_writes_of_cover _ _ _ _ _ (fun y => scover0_C_1 (y := y) ..)
              iexact HS2
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]
        · unfold owns; iexists _; isplitr
          swap; · iexact H8
          ipureintro; exact View.read_writes_of_cover _ _ _ _ _ (fun y => cover0_C_8 (y := y) ..)
        isplitl [H9]
        · unfold owns; iexists _; isplitr
          swap; · iexact H9
          ipureintro; exact View.read_writes_of_cover _ _ _ _ _ (fun y => cover0_C_9 (y := y) ..)
        isplitl [H10]
        · unfold owns; iexists _; isplitr
          swap; · iexact H10
          ipureintro; exact View.read_writes_of_cover _ _ _ _ _ (fun y => cover0_C_10 (y := y) ..)
        isplitl [H11]
        · unfold owns; iexists _; isplitr
          swap; · iexact H11
          ipureintro; exact View.read_writes_of_cover _ _ _ _ _ (fun y => cover0_C_11 (y := y) ..)
        iexact H12
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [Dat.leavesExact_idle (dats m hO 0 c) 8 t (idleAt0_8_B m hO t (fun h => h0 ((hcond0_0 t).mp h)) (fun h => h1 ((hcond0_1 t).mp h))) (noFlush0_8_B m hO t (fun h => h0 ((hcond0_0 t).mp h)) (fun h => h1 ((hcond0_1 t).mp h)))]
      rw [Dat.leavesExact_idle (dats m hO 0 c) 9 t (idleAt0_9_B m hO t (fun h => h0 ((hcond0_0 t).mp h)) (fun h => h1 ((hcond0_1 t).mp h))) (noFlush0_9_B m hO t (fun h => h0 ((hcond0_0 t).mp h)) (fun h => h1 ((hcond0_1 t).mp h)))]
      rw [show (dats m hO 0 c).leavesExact 10 t = owns (c : Thread nD τ) (ms0_10 m hO t) fullShare ((dats m hO 0 c).after 10 t) from by
      unfold Dat.leavesExact; rw [liveAt0_10 m hO t]; try rfl, after0_10]
      rw [Dat.leavesExact_idle (dats m hO 0 c) 11 t (idleAt0_11_B m hO t (fun h => h0 ((hcond0_0 t).mp h)) (fun h => h1 ((hcond0_1 t).mp h))) (noFlush0_11_B m hO t (fun h => h0 ((hcond0_0 t).mp h)) (fun h => h1 ((hcond0_1 t).mp h)))]
      rw [Dat.leavesExact_idle (dats m hO 0 c) 12 t (idleAt0_12_B m hO t (fun h => h0 ((hcond0_0 t).mp h)) (fun h => h1 ((hcond0_1 t).mp h))) (noFlush0_12_B m hO t (fun h => h0 ((hcond0_0 t).mp h)) (fun h => h1 ((hcond0_1 t).mp h)))]
      by_cases hz : t.val = 0
      · exfalso; have hN : t.val < 54 := lt_of_lt_of_eq t.isLt (show (cfgM m hO).N = 54 from N_0); omega
      · rw [PhiS_castSucc m hO c t, PhiS_pos m hO c _ _ hz, PhiT0_eq]
        rw [outsAt0_B m hO c t h0 h1]
        unfold atB outsB out0_B_10 sout0_B_0 sout0_B_1; (try dsimp only)
        iintro ⟨⟨⟨⟨HS0, HS1, HS2⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) _ _ _).2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexact H11
        isplitl [H12]; · iexact H12
        isplitl [HS0]; · iexact HS0
        isplitl [HS1]; · iexact HS1
        isplitl [HS2]; · iexact HS2
        isplitl [HT0]; · iexact HT0
        iintro ⟨H0, H1, H2, H3, H4, H5, H6, H7, H8, H9, ⟨%e10, H10⟩, H11, H12, ⟨%es0, HS0⟩, ⟨%es1, HS1⟩, HS2, HT0⟩
        isplitl [HS0 HS1 HS2 Hg HT0]
        · isplitl [HS0 HS1 HS2 Hg]
          · isplitl [HS0 HS1 HS2]
            · isplitl [HS0]
              · unfold owns; iexists _; isplitr
                swap; · iexact HS0
                ipureintro; exact View.read_writes_of_cover _ _ _ _ _ (fun y => scover0_B_0 (y := y) ..)
              isplitl [HS1]
              · unfold owns; iexists _; isplitr
                swap; · iexact HS1
                ipureintro; exact View.read_writes_of_cover _ _ _ _ _ (fun y => scover0_B_1 (y := y) ..)
              iexact HS2
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]
        · unfold owns; iexists _; isplitr
          swap; · iexact H10
          ipureintro; exact View.read_writes_of_cover _ _ _ _ _ (fun y => cover0_B_10 (y := y) ..)
        isplitl [H11]; · iexists _; iexact H11
        iexists _; iexact H12

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2⟩, Hg⟩, -⟩
  isplitl [HS0 HS1 HS2]
  · isplitl [HS0]
    · iexists _; iexact HS0
    isplitl [HS1]
    · iexists _; iexact HS1
    iexists _; iexact HS2
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 54 := N_0; omega)

/-! ## The run and the frame -/

-- `θ_run_frameP_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Gen

end
-- ==== Proof.Kernel.BitsFrame.lean ====
/- The frame of the program read at the bit-exact instance. The two printed programs are the same text at a generic float instance, so
   the frame proved of the one, at any instance, is the frame of the other. -/
module

public import proofs.«01_k».proof.Defs
public import proofs.«01_k».proof.Proof.Gen.Kernel
public import proofs.«01_k».proof.Proof.Kernel.Body

@[expose] public section

set_option maxRecDepth 16384

noncomputable section

namespace Cert.Proof

open Idealize.ShloMosaic Idealize.ShloMosaic.TcCoe Idealize.SL.Sem

/-- The frame's statement for the two programs is one statement: they were printed with the same text. -/
theorem quiescent_eq [hK : Cert.Kernel.Facts] [hI : Cert.KernelIdeal.Facts] : Cert.quiescent_Kernel = (
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)) := by sl_kernel_rfl

theorem quiescent_Kernel : Cert.quiescent_Kernel (hKernel := Cert.Kernel.Gen.facts) := by
  rw [quiescent_eq (hI := Cert.KernelIdeal.Gen.facts)]
  exact fun m g _ => Cert.KernelIdeal.Gen.frame (F := Bits) m g trivial

end Cert.Proof

end
-- ==== Proof.Kernel.Stores.lean ====
module

public import proofs.«01_k».proof.Proof.Kernel.Outs
public import Idealize.ShloMosaic.Lib.Pipeline.ValueKit
public import Idealize.ShloMosaic.Lib.Pipeline.ReadBack
public import Idealize.ShloMosaic.Lib.Pointwise

/-! What each case of the kernel's body leaves in its buffers, over the extended reals: the accumulator after one more block of
    columns, and each result as the payload the body stores. -/

@[expose] public section

set_option maxRecDepth 16384

noncomputable section

namespace Cert.KernelIdeal.Gen

open Idealize.ShloMosaic Idealize.ShloMosaic.TcCoe Idealize.ShloMosaic.Tactic Pipeline

/-- The adapter of the token mask: the lengths table, read at its two entries. -/
def mskOf (l : IVec S2 32) : FVec Ideal S1x256 .f32 := k0_pay15 (F := Ideal) (l (ix1 0)) (l (ix1 1))

/-- The tables' two scalar reads. -/
theorem lens_read0 {c : Dev nD} (xt0 : TbBuf0 (F := Ideal) c tbM0_0) (h) :
    View.ld (View.read (Elt Ideal) (View.whole main_arg8) xt0) (Rect.unit ![0] ![1] inb_S2_S1_0) (Shape.Idx.first h) = (xt0 : IVec S2 32) (ix1 0) := by
  refine congrArg (xt0 : IVec S2 32) (funext fun a => ?_)
  fin_cases a; rfl
theorem lens_read1 {c : Dev nD} (xt0 : TbBuf0 (F := Ideal) c tbM0_0) (h) :
    View.ld (View.read (Elt Ideal) (View.whole main_arg8) xt0) (Rect.unit ![1] ![1] inb_S2_S1_1) (Shape.Idx.first h) = (xt0 : IVec S2 32) (ix1 1) := by
  refine congrArg (xt0 : IVec S2 32) (funext fun a => ?_)
  fin_cases a; rfl

/-- The index a slice's entry has in the accumulator. -/
theorem emb_slice (o : ℕ) (inb) (x0 : Fin 256) (x1 : Fin 512) :
    (Rect.unit (s := S256x5120) ![0, o] ![256, 512] inb).emb (ix2 x0 x1) = ix2 x0 ⟨o + x1.val, by have := inb 1; simp at this; omega⟩ := by
  funext a
  fin_cases a
  · exact Fin.ext (by simp [Rect.emb, Rect.unit])
  · exact Fin.ext (by simp [Rect.emb, Rect.unit])

/-- The accumulator after one more block of columns: each entry gains the inner product over the block. -/
def accStep (x2 : Vec Ideal S256x512 .fp8e5m2) (x5 : Vec Ideal S1x512 .f32) (x4 : Vec Ideal S5120x512 .fp8e4m3)
    (P : Vec Ideal S256x5120 .f32) : Vec Ideal S256x5120 .f32 :=
  fun y => P y + ∑ k : Fin 512, x2 (ix2 (y 0) k) * x5 (ix2 0 k) * x4 (ix2 (y 1) k)

/-- The ten stores of the accumulator's slices, last one first. -/
def accList (x2 : Vec Ideal S256x512 .fp8e5m2) (x5 : Vec Ideal S1x512 .f32) (x4 : Vec Ideal S5120x512 .fp8e4m3)
    (P : Vec Ideal S256x5120 .f32) : List (View.Piece (Elt Ideal) S256x5120 .f32) :=
  [⟨Rect.unit ![0, 4608] ![256, 512] inb_S256x5120_S256x512_0_4608, k0_pay29 (F := Ideal) (k0_pay17 x2 x5) (View.ld P (Rect.unit ![0, 4608] ![256, 512] inb_S256x5120_S256x512_0_4608)) (View.ld x4 (Rect.unit ![4608, 0] ![512, 512] inb_S5120x512_S512x512_4608_0))⟩,
   ⟨Rect.unit ![0, 4096] ![256, 512] inb_S256x5120_S256x512_0_4096, k0_pay28 (F := Ideal) (k0_pay17 x2 x5) (View.ld P (Rect.unit ![0, 4096] ![256, 512] inb_S256x5120_S256x512_0_4096)) (View.ld x4 (Rect.unit ![4096, 0] ![512, 512] inb_S5120x512_S512x512_4096_0))⟩,
   ⟨Rect.unit ![0, 3584] ![256, 512] inb_S256x5120_S256x512_0_3584, k0_pay27 (F := Ideal) (k0_pay17 x2 x5) (View.ld P (Rect.unit ![0, 3584] ![256, 512] inb_S256x5120_S256x512_0_3584)) (View.ld x4 (Rect.unit ![3584, 0] ![512, 512] inb_S5120x512_S512x512_3584_0))⟩,
   ⟨Rect.unit ![0, 3072] ![256, 512] inb_S256x5120_S256x512_0_3072, k0_pay26 (F := Ideal) (k0_pay17 x2 x5) (View.ld P (Rect.unit ![0, 3072] ![256, 512] inb_S256x5120_S256x512_0_3072)) (View.ld x4 (Rect.unit ![3072, 0] ![512, 512] inb_S5120x512_S512x512_3072_0))⟩,
   ⟨Rect.unit ![0, 2560] ![256, 512] inb_S256x5120_S256x512_0_2560, k0_pay25 (F := Ideal) (k0_pay17 x2 x5) (View.ld P (Rect.unit ![0, 2560] ![256, 512] inb_S256x5120_S256x512_0_2560)) (View.ld x4 (Rect.unit ![2560, 0] ![512, 512] inb_S5120x512_S512x512_2560_0))⟩,
   ⟨Rect.unit ![0, 2048] ![256, 512] inb_S256x5120_S256x512_0_2048, k0_pay24 (F := Ideal) (k0_pay17 x2 x5) (View.ld P (Rect.unit ![0, 2048] ![256, 512] inb_S256x5120_S256x512_0_2048)) (k0_pay23 (View.ld x4 (Rect.unit ![2048, 0] ![512, 512] inb_S5120x512_S512x512_2048_0))) (constant S256x512 .f32 0#32)⟩,
   ⟨Rect.unit ![0, 1536] ![256, 512] inb_S256x5120_S256x512_0_1536, k0_pay22 (F := Ideal) (k0_pay17 x2 x5) (View.ld P (Rect.unit ![0, 1536] ![256, 512] inb_S256x5120_S256x512_0_1536)) (View.ld x4 (Rect.unit ![1536, 0] ![512, 512] inb_S5120x512_S512x512_1536_0))⟩,
   ⟨Rect.unit ![0, 1024] ![256, 512] inb_S256x5120_S256x512_0_1024, k0_pay21 (F := Ideal) (k0_pay17 x2 x5) (View.ld P (Rect.unit ![0, 1024] ![256, 512] inb_S256x5120_S256x512_0_1024)) (View.ld x4 (Rect.unit ![1024, 0] ![512, 512] inb_S5120x512_S512x512_1024_0))⟩,
   ⟨Rect.unit ![0, 512] ![256, 512] inb_S256x5120_S256x512_0_512, k0_pay20 (F := Ideal) (k0_pay17 x2 x5) (View.ld P (Rect.unit ![0, 512] ![256, 512] inb_S256x5120_S256x512_0_512)) (View.ld x4 (Rect.unit ![512, 0] ![512, 512] inb_S5120x512_S512x512_512_0))⟩,
   ⟨Rect.unit ![0, 0] ![256, 512] inb_S256x5120_S256x512_0_0, k0_pay19 (F := Ideal) (k0_pay18 x2 x5 (View.ld P (Rect.unit ![0, 0] ![256, 512] inb_S256x5120_S256x512_0_0)) (View.ld x4 (Rect.unit ![0, 0] ![512, 512] inb_S5120x512_S512x512_0_0)))⟩]

/-- Each stored slice is the updated accumulator there. -/
theorem accList_pieces (x2 : Vec Ideal S256x512 .fp8e5m2) (x5 : Vec Ideal S1x512 .f32) (x4 : Vec Ideal S5120x512 .fp8e4m3)
    (P : Vec Ideal S256x5120 .f32) : View.PiecesOf (accStep x2 x5 x4 P) (accList x2 x5 x4 P) := by
  refine ⟨fun x => ?_, fun x => ?_, fun x => ?_, fun x => ?_, fun x => ?_, fun x => ?_, fun x => ?_, fun x => ?_, fun x => ?_, fun x => ?_, trivial⟩
  all_goals
    idx_vars x
    simp only [accStep, emb_slice]
    pointwise [ k0_pay29, k0_pay28, k0_pay27, k0_pay26, k0_pay25, k0_pay24, k0_pay23, k0_pay22, k0_pay21, k0_pay20, k0_pay19, k0_pay18, k0_pay17, k0_pay16]

/-- The slices cover the accumulator. -/
theorem accList_cover (x2 : Vec Ideal S256x512 .fp8e5m2) (x5 : Vec Ideal S1x512 .f32) (x4 : Vec Ideal S5120x512 .fp8e4m3)
    (P : Vec Ideal S256x5120 .f32) (y : S256x5120.Idx) : ∃ p ∈ accList x2 x5 x4 P, y ∈ p.1.set :=
  View.cover_of_tiledL (accList x2 x5 x4 P) S256x512.size (by sl_kernel_rfl) y

/-- Over any earlier stores the ten slices leave the updated accumulator. -/
theorem canon_accList (x2 : Vec Ideal S256x512 .fp8e5m2) (x5 : Vec Ideal S1x512 .f32) (x4 : Vec Ideal S5120x512 .fp8e4m3)
    (P : Vec Ideal S256x5120 .f32) (L) : View.canon (accList x2 x5 x4 P ++ L) = accStep x2 x5 x4 P :=
  funext fun y => View.canon_append_of_piecesOf _ L _ (accList_pieces x2 x5 x4 P) y (accList_cover x2 x5 x4 P y)

/-- A load of the whole accumulator after the ten slices reads the updated accumulator. -/
theorem readCov_accList {κ sp} (v : View sig κ sp S256x5120 .f32) (x2 : Vec Ideal S256x512 .fp8e5m2) (x5 : Vec Ideal S1x512 .f32) (x4 : Vec Ideal S5120x512 .fp8e4m3)
    (P : Vec Ideal S256x5120 .f32) :
    v.readCov (accList x2 x5 x4 P) (Rect.unit ![0, 0] ![256, 5120] inb_S256x5120_S256x5120_0_0).toLoadRect = accStep x2 x5 x4 P := by
  rw [View.readCov_eq_canon_ld _ _ _ (accList_cover x2 x5 x4 P)]
  have h := canon_accList x2 x5 x4 P []
  rw [List.append_nil] at h
  rw [h]
  exact View.ld_unit_zero (by decide) _ _

section V
variable (c : Dev nD) (i : grid0.Coords) (arg2 : Memref sig .tc .vmem S256x5120 .fp8e4m3) (harg2 : arg2.IsWhole) (arg3 : Memref sig .tc .vmem S1x256 .f32) (harg3 : arg3.IsWhole) (arg4 : Memref sig .tc .vmem S256x512 .fp8e5m2) (harg4 : arg4.IsWhole) (arg5 : Memref sig .tc .vmem S1x256 .f32) (harg5 : arg5.IsWhole) (arg6 : Memref sig .tc .vmem S5120x512 .fp8e4m3) (harg6 : arg6.IsWhole) (arg7 : Memref sig .tc .vmem S1x512 .f32) (harg7 : arg7.IsWhole) (arg8 : Memref sig .tc .vmem S5120x16 .bf16) (harg8 : arg8.IsWhole) (arg9 : Memref sig .tc .vmem S16x512 .bf16) (harg9 : arg9.IsWhole) (arg10 : Memref sig .tc .vmem S2x128x5120 .bf16) (harg10 : arg10.IsWhole) (arg11 : Memref sig .tc .vmem S5120x16 .f32) (harg11 : arg11.IsWhole) (arg12 : Memref sig .tc .vmem S16x512 .f32) (harg12 : arg12.IsWhole) (arg13 : Memref sig .tc .vmem S2x128x16 .f32) (harg13 : arg13.IsWhole) (arg14 : Memref sig .tc .vmem S2x128x16 .f32) (harg14 : arg14.IsWhole) (arg15 : Memref sig .tc .vmem S256x5120 .f32) (harg15 : arg15.IsWhole) (arg16 : Memref sig .tc .vmem S16x256 .f32) (harg16 : arg16.IsWhole) (arg17 : Memref sig .tc .vmem S48x256 .bf16) (harg17 : arg17.IsWhole)
  (x0 : Vec Ideal S256x5120 .fp8e4m3) (x1 : Vec Ideal S1x256 .f32) (x2 : Vec Ideal S256x512 .fp8e5m2) (x3 : Vec Ideal S1x256 .f32) (x4 : Vec Ideal S5120x512 .fp8e4m3) (x5 : Vec Ideal S1x512 .f32) (x6 : Vec Ideal S5120x16 .bf16) (x7 : Vec Ideal S16x512 .bf16) (xt0 : TbBuf0 (F := Ideal) c tbM0_0) (xs0 : Vec Ideal S256x5120 .f32) (xs1 : Vec Ideal S16x256 .f32) (xs2 : Vec Ideal S48x256 .bf16) (o12 : Vec Ideal S2x128x16 .f32)

/-- What case A leaves there: `sout0_A_0`. -/
theorem sout0_A_0_val (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1 = accStep x2 x5 x4 (k0_pay2 (F := Ideal)) := by
  frame_open
  simp (disch := decide) only [↓ View.readCov_skip, ↓ View.readCov_cons_toLoadRect, ↓ View.readCov_fill]
  frame_out
  exact canon_accList x2 x5 x4 _ _

/-- What case A leaves there: `sout0_A_1`. -/
theorem sout0_A_1_val (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1 = k0_pay30 (k0_pay16 x2) (k0_pay3 (F := Ideal)) x7 := by
  frame_open
  simp (disch := decide) only [↓ View.readCov_skip, ↓ View.readCov_cons_toLoadRect, ↓ View.readCov_fill]
  frame_out

/-- What case A leaves there: `sout0_A_2`. -/
theorem sout0_A_2_val (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1 = k0_pay5 (mskOf xt0) x6 x0 x1 x3 := by
  frame_open
  simp (disch := decide) only [↓ View.readCov_skip, ↓ View.readCov_cons_toLoadRect, ↓ View.readCov_fill]
  frame_out
  simp only [mskOf, lens_read0, lens_read1]

/-- What case A leaves there: `out0_A_10`. -/
theorem out0_A_10_val (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1 = k0_pay31 (k0_pay16 x2) (k0_pay5 (mskOf xt0) x6 x0 x1 x3) := by
  frame_open
  simp (disch := decide) only [↓ View.readCov_skip, ↓ View.readCov_cons_toLoadRect, ↓ View.readCov_fill]
  frame_out
  simp only [mskOf, lens_read0, lens_read1]

/-- What case A leaves there: `out0_A_12`. -/
theorem out0_A_12_val (hc0 : cond0_0 i) (hc1 : ¬cond0_1 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 hc0 hc1 = k0_pay6 (mskOf xt0) x6 x0 x1 := by
  frame_open
  simp (disch := decide) only [↓ View.readCov_skip, ↓ View.readCov_cons_toLoadRect, ↓ View.readCov_fill]
  frame_out
  simp only [mskOf, lens_read0, lens_read1]

/-- What case B leaves there: `sout0_B_0`. -/
theorem sout0_B_0_val (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = accStep x2 x5 x4 xs0 := by
  frame_out
  exact canon_accList x2 x5 x4 _ []

/-- What case B leaves there: `sout0_B_1`. -/
theorem sout0_B_1_val (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay30 (k0_pay16 x2) xs1 x7 := by
  frame_out

/-- What case B leaves there: `out0_B_10`. -/
theorem out0_B_10_val (hc0 : ¬cond0_0 i) (hc1 : ¬cond0_1 i) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay31 (k0_pay16 x2) xs2 := by
  frame_out

/-- What case C leaves there: `sout0_C_0`. -/
theorem sout0_C_0_val (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = accStep x2 x5 x4 xs0 := by
  frame_out
  exact canon_accList x2 x5 x4 _ []

/-- What case C leaves there: `sout0_C_1`. -/
theorem sout0_C_1_val (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay30 (k0_pay16 x2) xs1 x7 := by
  frame_out

/-- What case C leaves there: `out0_C_10`. -/
theorem out0_C_10_val (hc0 : ¬cond0_0 i) (hc1 : cond0_1 i) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay31 (k0_pay16 x2) xs2 := by
  frame_out

/-- What case C leaves there: `out0_C_8`. -/
theorem out0_C_8_val (hc0 : ¬cond0_0 i) (hc1 : cond0_1 i) :
    out0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay1 (mskOf xt0) (k0_pay11 (mskOf xt0) (k0_pay30 (k0_pay16 x2) xs1 x7) x3) (k0_pay13 (mskOf xt0) (k0_pay30 (k0_pay16 x2) xs1 x7) x3) (k0_pay14 (mskOf xt0) (k0_pay30 (k0_pay16 x2) xs1 x7) x3) x6 x3 (accStep x2 x5 x4 xs0) := by
  frame_out
  simp only [lens_read0, lens_read1]
  rw [← readCov_accList arg15.view]
  rfl

/-- What case C leaves there: `out0_C_9`. -/
theorem out0_C_9_val (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay9 (mskOf xt0) (k0_pay30 (k0_pay16 x2) xs1 x7) x3 x1 x0 := by
  frame_out
  simp only [mskOf, lens_read0, lens_read1]

/-- What case C leaves there: `out0_C_11`. -/
theorem out0_C_11_val (hc0 : ¬cond0_0 i) (hc1 : cond0_1 i) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 xt0 xs0 xs1 xs2 hc0 hc1 = k0_pay8 (mskOf xt0) (k0_pay30 (k0_pay16 x2) xs1 x7) x3 := by
  frame_out
  simp only [mskOf, lens_read0, lens_read1]

end V

end Cert.KernelIdeal.Gen
-- ==== Proof.Spec.lean ====
module

public import Idealize.ShloMosaic.Lib.Pointwise
public import Idealize.ShloMosaic.Lib.Pipeline.ValueKit

/-! The five results written as plain sums over the problem's inputs, and the algebra that both programs need: sums and
    products of finite extended reals are finite, so a finite value less itself is zero and finite factors distribute. -/

@[expose] public section

noncomputable section

namespace Cert.Lora

open Idealize.ShloMosaic

/-- The batch entry of token row `i` (128 rows each). -/
def bi (i : Fin 256) : Fin 2 := ⟨i.val / 128, by omega⟩
/-- The position of token row `i` within its batch entry. -/
def si (i : Fin 256) : Fin 128 := ⟨i.val % 128, by omega⟩
/-- The token row of position `s` of batch entry `b`. -/
def row (b : Fin 2) (s : Fin 128) : Fin 256 := ⟨b.val * 128 + s.val, by omega⟩

theorem bi_row (b s) : bi (row b s) = b := Fin.ext (by show (b.val * 128 + s.val) / 128 = b.val; omega)
theorem si_row (b s) : si (row b s) = s := Fin.ext (by show (b.val * 128 + s.val) % 128 = s.val; omega)

theorem bi_mk (b : Fin 2) (s : Fin 128) (h) : bi ⟨b.val * 128 + s.val, h⟩ = b := bi_row b s
theorem si_mk (b : Fin 2) (s : Fin 128) (h) : si ⟨b.val * 128 + s.val, h⟩ = s := si_row b s

/-- A sum over three groups of sixteen, the last two of zeros. -/
theorem sum48 (F : Fin 48 → EReal) (f : Fin 16 → EReal) (h0 : ∀ (r : Fin 16) (h : r.val < 48), F ⟨r.val, h⟩ = f r)
    (h1 : ∀ p, ¬p.val < 16 → F p = 0) : ∑ p, F p = ∑ r, f r := by
  have h := Fin.sum_univ_add (a := 16) (b := 32) F
  refine h.trans ?_
  rw [Finset.sum_eq_zero (s := Finset.univ) (f := fun i : Fin 32 => F (Fin.natAdd 16 i)) fun i _ => h1 _ (by show ¬16 + i.val < 16; omega), add_zero]
  exact Finset.sum_congr rfl fun r _ => h0 r (by omega)

/-- A sum over batch entries and positions is the sum over the token rows. -/
theorem sum_rows {M : Type*} [AddCommMonoid M] (f : Fin 2 → Fin 128 → M) :
    ∑ i : Fin 256, f (bi i) (si i) = ∑ b : Fin 2, ∑ s : Fin 128, f b s := by
  refine (Fin.sum_mul_add_congr (F := f) (f := fun i : Fin 256 => f (bi i) (si i)) fun b s h => ?_).symm
  show f b s = f (bi (row b s)) (si (row b s))
  rw [bi_row, si_row]

/-- The inputs: `x` and its per-token scale, `dy` and its per-token scale, the weight and its per-column scale, the two
    adapters, and the batch entries' lengths. -/
structure In where
  X : Fin 2 → Fin 128 → Fin 5120 → EReal
  XS : Fin 2 → Fin 128 → EReal
  DY : Fin 2 → Fin 128 → Fin 27648 → EReal
  DYS : Fin 2 → Fin 128 → EReal
  W : Fin 5120 → Fin 27648 → EReal
  WS : Fin 27648 → EReal
  A : Fin 5120 → Fin 16 → EReal
  B : Fin 16 → Fin 27648 → EReal
  LEN : Fin 2 → BitVec 32

/-- The scale of the adapters' product. -/
def two : EReal := Ideal.ofBits .f32 1073741824#32

namespace In
variable (P : In)

/-- The mask: one at the positions below the batch entry's length, zero at the others. -/
def M (b : Fin 2) (s : Fin 128) : EReal := if (s.val : ℤ) < (P.LEN b).toInt then 1 else 0
/-- `dy` against `lora_b`. -/
def tt (b : Fin 2) (s : Fin 128) (r : Fin 16) : EReal := ∑ o : Fin 27648, P.B r o * P.DY b s o
/-- The fourth result. -/
def t (b : Fin 2) (s : Fin 128) (r : Fin 16) : EReal := P.tt b s r * P.DYS b s * P.M b s
/-- The fifth result. -/
def xa (b : Fin 2) (s : Fin 128) (r : Fin 16) : EReal := (∑ k : Fin 5120, P.A k r * P.X b s k) * P.XS b s * P.M b s
/-- `dy` against the scaled weight. -/
def acc (b : Fin 2) (s : Fin 128) (d : Fin 5120) : EReal := ∑ o : Fin 27648, P.DY b s o * P.WS o * P.W d o
/-- The first result. -/
def dx (b : Fin 2) (s : Fin 128) (d : Fin 5120) : EReal :=
  P.acc b s d * (P.DYS b s * P.M b s) + (∑ r : Fin 16, two * P.t b s r * P.A d r) * P.M b s
/-- The second result. -/
def da (d : Fin 5120) (r : Fin 16) : EReal := two * ∑ b : Fin 2, ∑ s : Fin 128, P.t b s r * P.XS b s * P.X b s d
/-- The third result. -/
def db (r : Fin 16) (o : Fin 27648) : EReal := two * ∑ b : Fin 2, ∑ s : Fin 128, P.xa b s r * P.DYS b s * P.DY b s o

end In

/-- A finite extended real. -/
def Fi (x : EReal) : Prop := ∃ r : ℝ, x = (r : EReal)

theorem Fi.mul {x y : EReal} (hx : Fi x) (hy : Fi y) : Fi (x * y) := by
  obtain ⟨a, rfl⟩ := hx; obtain ⟨b, rfl⟩ := hy; exact ⟨a * b, by push_cast; rfl⟩
theorem Fi.add {x y : EReal} (hx : Fi x) (hy : Fi y) : Fi (x + y) := by
  obtain ⟨a, rfl⟩ := hx; obtain ⟨b, rfl⟩ := hy; exact ⟨a + b, by push_cast; rfl⟩
theorem Fi.zero : Fi 0 := ⟨0, rfl⟩
theorem Fi.one : Fi 1 := ⟨1, rfl⟩
theorem Fi.sum {ι : Type*} (s : Finset ι) (f : ι → EReal) (h : ∀ i, Fi (f i)) : Fi (∑ i ∈ s, f i) := by
  classical
  induction s using Finset.induction_on with
  | empty => rw [Finset.sum_empty]; exact Fi.zero
  | insert a s ha ih => rw [Finset.sum_insert ha]; exact (h a).add ih
theorem Fi.sub_self {x : EReal} (hx : Fi x) : x - x = 0 := by
  obtain ⟨a, rfl⟩ := hx
  rw [← EReal.coe_sub, _root_.sub_self]; rfl
theorem Fi.of_ne {x : EReal} (h : x ≠ ⊤) (h' : x ≠ ⊥) : Fi x := ⟨x.toReal, (EReal.coe_toReal h h').symm⟩

/-- A finite factor distributes over a sum of finite values. -/
theorem Fi.mul_sum {ι : Type*} (s : Finset ι) (c : EReal) (hc : Fi c) (f : ι → EReal) (h : ∀ i, Fi (f i)) :
    c * ∑ i ∈ s, f i = ∑ i ∈ s, c * f i := by
  classical
  induction s using Finset.induction_on with
  | empty => simp
  | insert a s ha ih =>
    rw [Finset.sum_insert ha, Finset.sum_insert ha, ← ih]
    obtain ⟨x, hx⟩ := h a; obtain ⟨y, hy⟩ := Fi.sum s f h; obtain ⟨z, rfl⟩ := hc
    rw [hx, hy]
    norm_cast
    exact _root_.mul_add z x y

theorem Fi.two : Fi two := by
  refine ⟨2, ?_⟩
  unfold Lora.two
  simp [Ideal.ofBits, Ideal.ieee, -EReal.coe_mul]; norm_num

/-- What the claim assumes of the inputs. -/
structure In.Ok (P : In) : Prop where
  X : ∀ b s k, Fi (P.X b s k)
  XS : ∀ b s, Fi (P.XS b s)
  DY : ∀ b s o, Fi (P.DY b s o)
  DYS : ∀ b s, Fi (P.DYS b s)
  A : ∀ d r, Fi (P.A d r)
  B : ∀ r o, Fi (P.B r o)
  LEN : ∀ b, (P.LEN b).toInt ≤ 128

namespace In
variable {P : In}

theorem M_cases (P : In) (b s) : P.M b s = 0 ∨ P.M b s = 1 := by
  unfold M; split
  · exact Or.inr rfl
  · exact Or.inl rfl
theorem M_fi (P : In) (b s) : Fi (P.M b s) := by
  rcases P.M_cases b s with h | h <;> rw [h]
  · exact Fi.zero
  · exact Fi.one

theorem Ok.tt (h : P.Ok) (b s r) : Fi (P.tt b s r) := Fi.sum _ _ fun o => (h.B r o).mul (h.DY b s o)
theorem Ok.t (h : P.Ok) (b s r) : Fi (P.t b s r) := ((h.tt b s r).mul (h.DYS b s)).mul (P.M_fi b s)
theorem Ok.xa (h : P.Ok) (b s r) : Fi (P.xa b s r) :=
  ((Fi.sum _ _ fun k => (h.A k r).mul (h.X b s k)).mul (h.XS b s)).mul (P.M_fi b s)

/-- The first result as the reference writes it: the mask applied last, and the scale in front of the adapter's sum. -/
theorem Ok.dx_eq (h : P.Ok) (b s d) :
    (P.acc b s d * P.DYS b s + Cert.Lora.two * ∑ r : Fin 16, P.t b s r * P.A d r) * P.M b s = P.dx b s d := by
  have e : (∑ r : Fin 16, Cert.Lora.two * P.t b s r * P.A d r) = Cert.Lora.two * ∑ r : Fin 16, P.t b s r * P.A d r := by
    rw [Fi.mul_sum _ _ Fi.two _ fun r => (h.t b s r).mul (h.A d r)]
    exact Finset.sum_congr rfl fun r _ => mul_assoc _ _ _
  unfold dx
  rw [e]
  rcases P.M_cases b s with hM | hM <;> rw [hM]
  · simp
  · simp

end In

end Cert.Lora
-- ==== Proof.Kernel.Blocks.lean ====
module

public import proofs.«01_k».proof.Proof.Kernel.Stores
public import proofs.«01_k».proof.Proof.Kernel.Body
public import proofs.«01_k».proof.Proof.Spec
public import Idealize.ShloMosaic.Lib.Claim
public import Idealize.ShloMosaic.Lib.Pipeline.ValueKit.Point

/-! The blocks the kernel's windows hand to its body, read at an index as entries of the arguments. -/

@[expose] public section

set_option maxRecDepth 16384

noncomputable section

namespace Cert.KernelIdeal.Gen

open Idealize.ShloMosaic Idealize.ShloMosaic.TcCoe Idealize.ShloMosaic.Tactic Pipeline

/-- The number of a grid point is its one coordinate. -/
theorem coord_val : ∀ t : Fin grid0.N, (BitVec.ofNat 32 (grid0.coords t 0).val).toNat = t.val := by decide +kernel

variable (m : (ℓ : Loc nD τ sig) → Buf (Elt Ideal) ℓ)

/-- The problem's inputs as the arguments hold them on device `c`. -/
def inp (c : Dev nD) : Cert.Lora.In where
  X b s k := (bitcastToFloat (s := S2x128x5120) .fp8e4m3 (m ((c : Thread nD τ).loc main_arg0)) : FVec Ideal S2x128x5120 .fp8e4m3) (ix3 b s k)
  XS b s := (m ((c : Thread nD τ).loc main_arg1) : Vec Ideal S2x128 .f32) (ix2 b s)
  DY b s o := (bitcastToFloat (s := S2x128x27648) .fp8e5m2 (m ((c : Thread nD τ).loc main_arg2)) : FVec Ideal S2x128x27648 .fp8e5m2) (ix3 b s o)
  DYS b s := (m ((c : Thread nD τ).loc main_arg3) : Vec Ideal S2x128 .f32) (ix2 b s)
  W d o := (bitcastToFloat (s := S5120x27648) .fp8e4m3 (m ((c : Thread nD τ).loc main_arg4)) : FVec Ideal S5120x27648 .fp8e4m3) (ix2 d o)
  WS o := (m ((c : Thread nD τ).loc main_arg5) : Vec Ideal S27648 .f32) (ix1 o)
  A d r := (m ((c : Thread nD τ).loc main_arg6) : Vec Ideal S5120x16 .bf16) (ix2 d r)
  B r o := (m ((c : Thread nD τ).loc main_arg7) : Vec Ideal S16x27648 .bf16) (ix2 r o)
  LEN b := (m ((c : Thread nD τ).loc main_arg8) : IVec S2 32) (ix1 b)

/-- Window 0's block at a point, read at an index of the array. -/
theorem rd0 (a : (pcfg0 (F := Ideal)).Adm) (t : Fin grid0.N) (f : Vec Ideal S256x5120 .fp8e4m3) (i : Fin 256) (k : Fin 5120) (h : t.val < 54) :
    ((((cfg0 a).win 0).blk t).view.read (Elt Ideal) f : Vec Ideal S256x5120 .fp8e4m3) (ix2 i k) = f (ix2 i k) := by
  show f _ = f _
  refine congrArg f (funext fun a => ?_)
  match a with
  | ⟨0, _⟩ => exact Fin.ext (show (0#32 : BitVec 32).toNat * 256 + 1 * i.val = i.val by rw [show (0#32 : BitVec 32).toNat = 0 from rfl]; omega)
  | ⟨1, _⟩ => exact Fin.ext (show 0 + 1 * k.val = k.val by omega)

theorem V_at0 (c : Dev nD) (i : Fin 256) (k : Fin 5120) : (V m c main_v3 : Vec Ideal S256x5120 .fp8e4m3) (ix2 i k) = (inp m c).X (Cert.Lora.bi i) (Cert.Lora.si i) k := by
  simp only [inp, Cert.Lora.bi, Cert.Lora.si]
  entry_read
  pointwise

/-- Window 0's block at point `t`. -/
def B0 (hO : Ok m) (c : Dev nD) (t : Fin (cfgM m hO).N) : Vec Ideal S256x5120 .fp8e4m3 := iblk m hO c 0 t
theorem B0_apply (hO : Ok m) (c : Dev nD) (t : Fin (cfgM m hO).N) (h : t.val < 54) (i : Fin 256) (k : Fin 5120) :
    B0 m hO c t (ix2 i k) = (inp m c).X (Cert.Lora.bi i) (Cert.Lora.si i) k := by
  unfold B0 iblk
  exact (rd0 (adm m hO) t _ i k h).trans (V_at0 m c i k)

/-- Window 1's block at a point, read at an index of the array. -/
theorem rd1 (a : (pcfg0 (F := Ideal)).Adm) (t : Fin grid0.N) (f : Vec Ideal S1x256 .f32) (k : Fin 256) (h : t.val < 54) :
    ((((cfg0 a).win 1).blk t).view.read (Elt Ideal) f : Vec Ideal S1x256 .f32) (ix2 0 k) = f (ix2 0 k) := by
  show f _ = f _
  refine congrArg f (funext fun a => ?_)
  match a with
  | ⟨0, _⟩ => exact Fin.ext (show 0 + 1 * 0 = 0 by omega)
  | ⟨1, _⟩ => exact Fin.ext (show 0 + 1 * k.val = k.val by omega)

theorem V_at1 (c : Dev nD) (k : Fin 256) : (V m c main_v4 : Vec Ideal S1x256 .f32) (ix2 0 k) = (inp m c).XS (Cert.Lora.bi k) (Cert.Lora.si k) := by
  simp only [inp, Cert.Lora.bi, Cert.Lora.si]
  entry_read
  pointwise

/-- Window 1's block at point `t`. -/
def B1 (hO : Ok m) (c : Dev nD) (t : Fin (cfgM m hO).N) : Vec Ideal S1x256 .f32 := iblk m hO c 1 t
theorem B1_apply (hO : Ok m) (c : Dev nD) (t : Fin (cfgM m hO).N) (h : t.val < 54) (k : Fin 256) :
    B1 m hO c t (ix2 0 k) = (inp m c).XS (Cert.Lora.bi k) (Cert.Lora.si k) := by
  unfold B1 iblk
  exact (rd1 (adm m hO) t _ k h).trans (V_at1 m c k)

/-- Window 2's block at a point, read at an index of the array. -/
theorem rd2 (a : (pcfg0 (F := Ideal)).Adm) (t : Fin grid0.N) (f : Vec Ideal S256x27648 .fp8e5m2) (i : Fin 256) (k : Fin 512) (h : t.val < 54) :
    ((((cfg0 a).win 2).blk t).view.read (Elt Ideal) f : Vec Ideal S256x512 .fp8e5m2) (ix2 i k) = f (ix2 i ⟨t.val * 512 + k.val, by omega⟩) := by
  show f _ = f _
  refine congrArg f (funext fun a => ?_)
  match a with
  | ⟨0, _⟩ => exact Fin.ext (show (0#32 : BitVec 32).toNat * 256 + 1 * i.val = i.val by rw [show (0#32 : BitVec 32).toNat = 0 from rfl]; omega)
  | ⟨1, _⟩ => exact Fin.ext (show (BitVec.ofNat 32 (grid0.coords t 0).val).toNat * 512 + 1 * k.val = t.val * 512 + k.val by rw [coord_val t]; omega)

theorem V_at2 (c : Dev nD) (i : Fin 256) (k : Fin 27648) : (V m c main_v5 : Vec Ideal S256x27648 .fp8e5m2) (ix2 i k) = (inp m c).DY (Cert.Lora.bi i) (Cert.Lora.si i) k := by
  simp only [inp, Cert.Lora.bi, Cert.Lora.si]
  entry_read
  pointwise

/-- Window 2's block at point `t`. -/
def B2 (hO : Ok m) (c : Dev nD) (t : Fin (cfgM m hO).N) : Vec Ideal S256x512 .fp8e5m2 := iblk m hO c 2 t
theorem B2_apply (hO : Ok m) (c : Dev nD) (t : Fin (cfgM m hO).N) (h : t.val < 54) (i : Fin 256) (k : Fin 512) :
    B2 m hO c t (ix2 i k) = (inp m c).DY (Cert.Lora.bi i) (Cert.Lora.si i) ⟨t.val * 512 + k.val, by omega⟩ := by
  unfold B2 iblk
  exact (rd2 (adm m hO) t _ i k h).trans (V_at2 m c i ⟨t.val * 512 + k.val, by omega⟩)

/-- Window 3's block at a point, read at an index of the array. -/
theorem rd3 (a : (pcfg0 (F := Ideal)).Adm) (t : Fin grid0.N) (f : Vec Ideal S1x256 .f32) (k : Fin 256) (h : t.val < 54) :
    ((((cfg0 a).win 3).blk t).view.read (Elt Ideal) f : Vec Ideal S1x256 .f32) (ix2 0 k) = f (ix2 0 k) := by
  show f _ = f _
  refine congrArg f (funext fun a => ?_)
  match a with
  | ⟨0, _⟩ => exact Fin.ext (show 0 + 1 * 0 = 0 by omega)
  | ⟨1, _⟩ => exact Fin.ext (show 0 + 1 * k.val = k.val by omega)

theorem V_at3 (c : Dev nD) (k : Fin 256) : (V m c main_v6 : Vec Ideal S1x256 .f32) (ix2 0 k) = (inp m c).DYS (Cert.Lora.bi k) (Cert.Lora.si k) := by
  simp only [inp, Cert.Lora.bi, Cert.Lora.si]
  entry_read
  pointwise

/-- Window 3's block at point `t`. -/
def B3 (hO : Ok m) (c : Dev nD) (t : Fin (cfgM m hO).N) : Vec Ideal S1x256 .f32 := iblk m hO c 3 t
theorem B3_apply (hO : Ok m) (c : Dev nD) (t : Fin (cfgM m hO).N) (h : t.val < 54) (k : Fin 256) :
    B3 m hO c t (ix2 0 k) = (inp m c).DYS (Cert.Lora.bi k) (Cert.Lora.si k) := by
  unfold B3 iblk
  exact (rd3 (adm m hO) t _ k h).trans (V_at3 m c k)

/-- Window 4's block at a point, read at an index of the array. -/
theorem rd4 (a : (pcfg0 (F := Ideal)).Adm) (t : Fin grid0.N) (f : Vec Ideal S5120x27648 .fp8e4m3) (i : Fin 5120) (k : Fin 512) (h : t.val < 54) :
    ((((cfg0 a).win 4).blk t).view.read (Elt Ideal) f : Vec Ideal S5120x512 .fp8e4m3) (ix2 i k) = f (ix2 i ⟨t.val * 512 + k.val, by omega⟩) := by
  show f _ = f _
  refine congrArg f (funext fun a => ?_)
  match a with
  | ⟨0, _⟩ => exact Fin.ext (show (0#32 : BitVec 32).toNat * 5120 + 1 * i.val = i.val by rw [show (0#32 : BitVec 32).toNat = 0 from rfl]; omega)
  | ⟨1, _⟩ => exact Fin.ext (show (BitVec.ofNat 32 (grid0.coords t 0).val).toNat * 512 + 1 * k.val = t.val * 512 + k.val by rw [coord_val t]; omega)

theorem V_at4 (c : Dev nD) (i : Fin 5120) (k : Fin 27648) : (V m c main_v2 : Vec Ideal S5120x27648 .fp8e4m3) (ix2 i k) = (inp m c).W i k := by
  simp only [inp, Cert.Lora.bi, Cert.Lora.si]
  entry_read
  pointwise

/-- Window 4's block at point `t`. -/
def B4 (hO : Ok m) (c : Dev nD) (t : Fin (cfgM m hO).N) : Vec Ideal S5120x512 .fp8e4m3 := iblk m hO c 4 t
theorem B4_apply (hO : Ok m) (c : Dev nD) (t : Fin (cfgM m hO).N) (h : t.val < 54) (i : Fin 5120) (k : Fin 512) :
    B4 m hO c t (ix2 i k) = (inp m c).W i ⟨t.val * 512 + k.val, by omega⟩ := by
  unfold B4 iblk
  exact (rd4 (adm m hO) t _ i k h).trans (V_at4 m c i ⟨t.val * 512 + k.val, by omega⟩)

/-- Window 5's block at a point, read at an index of the array. -/
theorem rd5 (a : (pcfg0 (F := Ideal)).Adm) (t : Fin grid0.N) (f : Vec Ideal S1x27648 .f32) (k : Fin 512) (h : t.val < 54) :
    ((((cfg0 a).win 5).blk t).view.read (Elt Ideal) f : Vec Ideal S1x512 .f32) (ix2 0 k) = f (ix2 0 ⟨t.val * 512 + k.val, by omega⟩) := by
  show f _ = f _
  refine congrArg f (funext fun a => ?_)
  match a with
  | ⟨0, _⟩ => exact Fin.ext (show 0 + 1 * 0 = 0 by omega)
  | ⟨1, _⟩ => exact Fin.ext (show (BitVec.ofNat 32 (grid0.coords t 0).val).toNat * 512 + 1 * k.val = t.val * 512 + k.val by rw [coord_val t]; omega)

theorem V_at5 (c : Dev nD) (k : Fin 27648) : (V m c main_v7 : Vec Ideal S1x27648 .f32) (ix2 0 k) = (inp m c).WS k := by
  simp only [inp, Cert.Lora.bi, Cert.Lora.si]
  entry_read
  pointwise

/-- Window 5's block at point `t`. -/
def B5 (hO : Ok m) (c : Dev nD) (t : Fin (cfgM m hO).N) : Vec Ideal S1x512 .f32 := iblk m hO c 5 t
theorem B5_apply (hO : Ok m) (c : Dev nD) (t : Fin (cfgM m hO).N) (h : t.val < 54) (k : Fin 512) :
    B5 m hO c t (ix2 0 k) = (inp m c).WS ⟨t.val * 512 + k.val, by omega⟩ := by
  unfold B5 iblk
  exact (rd5 (adm m hO) t _ k h).trans (V_at5 m c ⟨t.val * 512 + k.val, by omega⟩)

/-- Window 6's block at a point, read at an index of the array. -/
theorem rd6 (a : (pcfg0 (F := Ideal)).Adm) (t : Fin grid0.N) (f : Vec Ideal S5120x16 .bf16) (i : Fin 5120) (k : Fin 16) (h : t.val < 54) :
    ((((cfg0 a).win 6).blk t).view.read (Elt Ideal) f : Vec Ideal S5120x16 .bf16) (ix2 i k) = f (ix2 i k) := by
  show f _ = f _
  refine congrArg f (funext fun a => ?_)
  match a with
  | ⟨0, _⟩ => exact Fin.ext (show (0#32 : BitVec 32).toNat * 5120 + 1 * i.val = i.val by rw [show (0#32 : BitVec 32).toNat = 0 from rfl]; omega)
  | ⟨1, _⟩ => exact Fin.ext (show 0 + 1 * k.val = k.val by omega)

theorem V_at6 (c : Dev nD) (i : Fin 5120) (k : Fin 16) : (V m c main_arg6 : Vec Ideal S5120x16 .bf16) (ix2 i k) = (inp m c).A i k := by
  rw [V_main_arg6]; rfl

/-- Window 6's block at point `t`. -/
def B6 (hO : Ok m) (c : Dev nD) (t : Fin (cfgM m hO).N) : Vec Ideal S5120x16 .bf16 := iblk m hO c 6 t
theorem B6_apply (hO : Ok m) (c : Dev nD) (t : Fin (cfgM m hO).N) (h : t.val < 54) (i : Fin 5120) (k : Fin 16) :
    B6 m hO c t (ix2 i k) = (inp m c).A i k := by
  unfold B6 iblk
  exact (rd6 (adm m hO) t _ i k h).trans (V_at6 m c i k)

/-- Window 7's block at a point, read at an index of the array. -/
theorem rd7 (a : (pcfg0 (F := Ideal)).Adm) (t : Fin grid0.N) (f : Vec Ideal S16x27648 .bf16) (i : Fin 16) (k : Fin 512) (h : t.val < 54) :
    ((((cfg0 a).win 7).blk t).view.read (Elt Ideal) f : Vec Ideal S16x512 .bf16) (ix2 i k) = f (ix2 i ⟨t.val * 512 + k.val, by omega⟩) := by
  show f _ = f _
  refine congrArg f (funext fun a => ?_)
  match a with
  | ⟨0, _⟩ => exact Fin.ext (show (0#32 : BitVec 32).toNat * 16 + 1 * i.val = i.val by rw [show (0#32 : BitVec 32).toNat = 0 from rfl]; omega)
  | ⟨1, _⟩ => exact Fin.ext (show (BitVec.ofNat 32 (grid0.coords t 0).val).toNat * 512 + 1 * k.val = t.val * 512 + k.val by rw [coord_val t]; omega)

theorem V_at7 (c : Dev nD) (i : Fin 16) (k : Fin 27648) : (V m c main_arg7 : Vec Ideal S16x27648 .bf16) (ix2 i k) = (inp m c).B i k := by
  rw [V_main_arg7]; rfl

/-- Window 7's block at point `t`. -/
def B7 (hO : Ok m) (c : Dev nD) (t : Fin (cfgM m hO).N) : Vec Ideal S16x512 .bf16 := iblk m hO c 7 t
theorem B7_apply (hO : Ok m) (c : Dev nD) (t : Fin (cfgM m hO).N) (h : t.val < 54) (i : Fin 16) (k : Fin 512) :
    B7 m hO c t (ix2 i k) = (inp m c).B i ⟨t.val * 512 + k.val, by omega⟩ := by
  unfold B7 iblk
  exact (rd7 (adm m hO) t _ i k h).trans (V_at7 m c i ⟨t.val * 512 + k.val, by omega⟩)

end Cert.KernelIdeal.Gen
-- ==== Proof.Kernel.Vals.lean ====
module

public import proofs.«01_k».proof.Proof.Kernel.Blocks
public import Idealize.ShloMosaic.Lib.Pipeline.ValueKit.Held

/-! What the scratch buffers and the staged results hold after each grid point: the accumulators as sums over the columns
    seen so far, and at the last point the five results. -/

@[expose] public section

set_option maxRecDepth 16384

noncomputable section

namespace Cert.KernelIdeal.Gen

open Idealize.ShloMosaic Idealize.ShloMosaic.TcCoe Idealize.ShloMosaic.Tactic Pipeline Cert.Lora

/-- The mask as the kernel computes it, for lengths of at most 128. -/
theorem mskOf_apply (l : IVec S2 32) (hl : ∀ b, (l (ix1 b)).toInt ≤ 128) (i : Fin 256) :
    mskOf l (ix2 0 i) = if ((si i).val : ℤ) < (l (ix1 (bi i))).toInt then 1 else 0 := by
  unfold mskOf
  pointwise [k0_pay15]
  have h0 := hl 0
  have h1 := hl 1
  have hi : (BitVec.ofNat 32 i.val).toInt = i.val := by
    rw [BitVec.toInt_ofNat', Int.bmod_def]; omega
  have l0 := BitVec.le_toInt (l (ix1 0))
  have l1 := BitVec.le_toInt (l (ix1 1))
  have e1 : (128#32 + l (ix1 1)).toInt = 128 + (l (ix1 1)).toInt := by
    rw [BitVec.toInt_add, Int.bmod_def, show (128#32 : BitVec 32).toInt = 128 from rfl]; omega
  have e0 : (0#32 + l (ix1 0)).toInt = (l (ix1 0)).toInt := by rw [BitVec.zero_add]
  have z1 : (128#32 : BitVec 32).toInt = 128 := rfl
  have z0 : (0#32 : BitVec 32).toInt = 0 := rfl
  by_cases h : i.val < 128
  · have hb : bi i = 0 := Fin.ext (by show i.val / 128 = 0; omega)
    have hs : (si i).val = i.val := by show i.val % 128 = i.val; omega
    rw [hb, hs]
    have g : ¬(128 : ℤ) ≤ i.val := by omega
    have g' : (0 : ℤ) ≤ i.val := by omega
    by_cases k : ((i.val : ℕ) : ℤ) < (l (ix1 0)).toInt <;>
      simp [Scalar.select, Scalar.addi, IntOp.andi, IntOp.cmpi, IntOp.addi, BitVec.slt_eq_decide, BitVec.sle_eq_decide, hi, e0, e1, z0, z1, g, g', k]
  · have hb : bi i = 1 := Fin.ext (by show i.val / 128 = 1; omega)
    have hs : ((si i).val : ℤ) = i.val - 128 := by show ((i.val % 128 : ℕ) : ℤ) = i.val - 128; omega
    rw [hb, hs]
    have g : (128 : ℤ) ≤ i.val := by omega
    have g' : (0 : ℤ) ≤ i.val := by omega
    have g'' : ¬((i.val : ℕ) : ℤ) < (l (ix1 0)).toInt := by omega
    have e : (((i.val : ℕ) : ℤ) < 128 + (l (ix1 1)).toInt) = (((i.val : ℕ) : ℤ) - 128 < (l (ix1 1)).toInt) := propext (by omega)
    by_cases k : ((i.val : ℕ) : ℤ) - 128 < (l (ix1 1)).toInt <;>
      simp [Scalar.select, Scalar.addi, IntOp.andi, IntOp.cmpi, IntOp.addi, BitVec.slt_eq_decide, BitVec.sle_eq_decide, hi, e0, e1, z0, z1, g, g', g'', k, e]

variable (m : (ℓ : Loc nD τ sig) → Buf (Elt Ideal) ℓ)

/-- The mask the body computes. -/
def msk : FVec Ideal S1x256 .f32 := mskOf (tbl m 0)

/-- The accumulator, the adapter's accumulator and the split activations after point `n`. -/
def accAt (hO : Ok m) (c : Dev nD) (n : ℕ) (hn : n < (cfgM m hO).N) : Vec Ideal S256x5120 .f32 := (outsAt0 m hO c n hn).2.2.2.2.2.1
def ttAt (hO : Ok m) (c : Dev nD) (n : ℕ) (hn : n < (cfgM m hO).N) : Vec Ideal S16x256 .f32 := (outsAt0 m hO c n hn).2.2.2.2.2.2.1
def xspAt (hO : Ok m) (c : Dev nD) (n : ℕ) (hn : n < (cfgM m hO).N) : Vec Ideal S48x256 .bf16 := (outsAt0 m hO c n hn).2.2.2.2.2.2.2
def xaAt (hO : Ok m) (c : Dev nD) (n : ℕ) (hn : n < (cfgM m hO).N) : Vec Ideal S2x128x16 .f32 := (outsAt0 m hO c n hn).2.2.2.2.1

variable (hO : Ok m) (c : Dev nD) (t : Fin (cfgM m hO).N)

theorem accAt_A (h0 : t.val % 54 = 0) (h1 : ¬t.val % 54 = 53) :
    accAt m hO c t.val t.isLt = accStep (B2 m hO c t) (B5 m hO c t) (B4 m hO c t) (k0_pay2 (F := Ideal)) := by
  unfold accAt; rw [outsAt0_A m hO c t h0 h1]
  unfold atA outsA; dsimp only
  exact sout0_A_0_val ..

theorem ttAt_A (h0 : t.val % 54 = 0) (h1 : ¬t.val % 54 = 53) :
    ttAt m hO c t.val t.isLt = k0_pay30 (k0_pay16 (B2 m hO c t)) (k0_pay3 (F := Ideal)) (B7 m hO c t) := by
  unfold ttAt; rw [outsAt0_A m hO c t h0 h1]
  unfold atA outsA; dsimp only
  exact sout0_A_1_val ..

theorem xspAt_A (h0 : t.val % 54 = 0) (h1 : ¬t.val % 54 = 53) :
    xspAt m hO c t.val t.isLt = k0_pay5 (msk m) (B6 m hO c t) (B0 m hO c t) (B1 m hO c t) (B3 m hO c t) := by
  unfold xspAt; rw [outsAt0_A m hO c t h0 h1]
  unfold atA outsA; dsimp only
  exact sout0_A_2_val ..

theorem xaAt_A (h0 : t.val % 54 = 0) (h1 : ¬t.val % 54 = 53) :
    xaAt m hO c t.val t.isLt = k0_pay6 (msk m) (B6 m hO c t) (B0 m hO c t) (B1 m hO c t) := by
  unfold xaAt; rw [outsAt0_A m hO c t h0 h1]
  unfold atA outsA; dsimp only
  exact out0_A_12_val ..

theorem db_A (h0 : t.val % 54 = 0) (h1 : ¬t.val % 54 = 53) :
    (outsAt0 m hO c t.val t.isLt).2.2.1 = k0_pay31 (k0_pay16 (B2 m hO c t)) (k0_pay5 (msk m) (B6 m hO c t) (B0 m hO c t) (B1 m hO c t) (B3 m hO c t)) := by
  rw [outsAt0_A m hO c t h0 h1]
  unfold atA outsA; dsimp only
  exact out0_A_10_val ..

theorem accAt_B (h0 : ¬t.val % 54 = 0) (h1 : ¬t.val % 54 = 53) :
    accAt m hO c t.val t.isLt = accStep (B2 m hO c t) (B5 m hO c t) (B4 m hO c t) (accAt m hO c (t.val - 1) (Nat.lt_of_le_of_lt (Nat.sub_le _ _) t.isLt)) := by
  unfold accAt; rw [outsAt0_B m hO c t h0 h1]
  unfold atB outsB; dsimp only
  exact sout0_B_0_val ..

theorem ttAt_B (h0 : ¬t.val % 54 = 0) (h1 : ¬t.val % 54 = 53) :
    ttAt m hO c t.val t.isLt = k0_pay30 (k0_pay16 (B2 m hO c t)) (ttAt m hO c (t.val - 1) (Nat.lt_of_le_of_lt (Nat.sub_le _ _) t.isLt)) (B7 m hO c t) := by
  unfold ttAt; rw [outsAt0_B m hO c t h0 h1]
  unfold atB outsB; dsimp only
  exact sout0_B_1_val ..

theorem xspAt_B (h0 : ¬t.val % 54 = 0) (h1 : ¬t.val % 54 = 53) :
    xspAt m hO c t.val t.isLt = xspAt m hO c (t.val - 1) (Nat.lt_of_le_of_lt (Nat.sub_le _ _) t.isLt) := by
  unfold xspAt; rw [outsAt0_B m hO c t h0 h1]
  unfold atB outsB; dsimp only

theorem xaAt_B (h0 : ¬t.val % 54 = 0) (h1 : ¬t.val % 54 = 53) :
    xaAt m hO c t.val t.isLt = xaAt m hO c (t.val - 1) (Nat.lt_of_le_of_lt (Nat.sub_le _ _) t.isLt) := by
  unfold xaAt; rw [outsAt0_B m hO c t h0 h1]
  unfold atB outsB; dsimp only

theorem db_B (h0 : ¬t.val % 54 = 0) (h1 : ¬t.val % 54 = 53) :
    (outsAt0 m hO c t.val t.isLt).2.2.1 = k0_pay31 (k0_pay16 (B2 m hO c t)) (xspAt m hO c (t.val - 1) (Nat.lt_of_le_of_lt (Nat.sub_le _ _) t.isLt)) := by
  rw [outsAt0_B m hO c t h0 h1]
  unfold atB outsB; dsimp only
  exact out0_B_10_val ..

theorem accAt_C (h0 : ¬t.val % 54 = 0) (h1 : t.val % 54 = 53) :
    accAt m hO c t.val t.isLt = accStep (B2 m hO c t) (B5 m hO c t) (B4 m hO c t) (accAt m hO c (t.val - 1) (Nat.lt_of_le_of_lt (Nat.sub_le _ _) t.isLt)) := by
  unfold accAt; rw [outsAt0_C m hO c t h0 h1]
  unfold atC outsC; dsimp only
  exact sout0_C_0_val ..

theorem ttAt_C (h0 : ¬t.val % 54 = 0) (h1 : t.val % 54 = 53) :
    ttAt m hO c t.val t.isLt = k0_pay30 (k0_pay16 (B2 m hO c t)) (ttAt m hO c (t.val - 1) (Nat.lt_of_le_of_lt (Nat.sub_le _ _) t.isLt)) (B7 m hO c t) := by
  unfold ttAt; rw [outsAt0_C m hO c t h0 h1]
  unfold atC outsC; dsimp only
  exact sout0_C_1_val ..

theorem xspAt_C (h0 : ¬t.val % 54 = 0) (h1 : t.val % 54 = 53) :
    xspAt m hO c t.val t.isLt = xspAt m hO c (t.val - 1) (Nat.lt_of_le_of_lt (Nat.sub_le _ _) t.isLt) := by
  unfold xspAt; rw [outsAt0_C m hO c t h0 h1]
  unfold atC outsC; dsimp only

theorem xaAt_C (h0 : ¬t.val % 54 = 0) (h1 : t.val % 54 = 53) :
    xaAt m hO c t.val t.isLt = xaAt m hO c (t.val - 1) (Nat.lt_of_le_of_lt (Nat.sub_le _ _) t.isLt) := by
  unfold xaAt; rw [outsAt0_C m hO c t h0 h1]
  unfold atC outsC; dsimp only

theorem db_C (h0 : ¬t.val % 54 = 0) (h1 : t.val % 54 = 53) :
    (outsAt0 m hO c t.val t.isLt).2.2.1 = k0_pay31 (k0_pay16 (B2 m hO c t)) (xspAt m hO c (t.val - 1) (Nat.lt_of_le_of_lt (Nat.sub_le _ _) t.isLt)) := by
  rw [outsAt0_C m hO c t h0 h1]
  unfold atC outsC; dsimp only
  exact out0_C_10_val ..

theorem dx_C (h0 : ¬t.val % 54 = 0) (h1 : t.val % 54 = 53) :
    (outsAt0 m hO c t.val t.isLt).1 = k0_pay1 (msk m) (k0_pay11 (msk m) (ttAt m hO c t.val t.isLt) (B3 m hO c t)) (k0_pay13 (msk m) (ttAt m hO c t.val t.isLt) (B3 m hO c t)) (k0_pay14 (msk m) (ttAt m hO c t.val t.isLt) (B3 m hO c t)) (B6 m hO c t) (B3 m hO c t) (accAt m hO c t.val t.isLt) := by
  rw [accAt_C m hO c t h0 h1, ttAt_C m hO c t h0 h1, outsAt0_C m hO c t h0 h1]
  unfold atC outsC; dsimp only
  exact out0_C_8_val ..

theorem da_C (h0 : ¬t.val % 54 = 0) (h1 : t.val % 54 = 53) :
    (outsAt0 m hO c t.val t.isLt).2.1 = k0_pay9 (msk m) (ttAt m hO c t.val t.isLt) (B3 m hO c t) (B1 m hO c t) (B0 m hO c t) := by
  rw [ttAt_C m hO c t h0 h1, outsAt0_C m hO c t h0 h1]
  unfold atC outsC; dsimp only
  exact out0_C_9_val ..

theorem t_C (h0 : ¬t.val % 54 = 0) (h1 : t.val % 54 = 53) :
    (outsAt0 m hO c t.val t.isLt).2.2.2.1 = k0_pay8 (msk m) (ttAt m hO c t.val t.isLt) (B3 m hO c t) := by
  rw [ttAt_C m hO c t h0 h1, outsAt0_C m hO c t h0 h1]
  unfold atC outsC; dsimp only
  exact out0_C_11_val ..

section Sums
variable (hN : (cfgM m hO).N = 54)

/-- The accumulator after the last point: the whole inner product over the columns. -/
theorem acc_last (ht : t.val + 1 = 54) (i : Fin 256) (d : Fin 5120) :
    accAt m hO c t.val t.isLt (ix2 i d) = (inp m c).acc (bi i) (si i) d := by
  have hN : (cfgM m hO).N = 54 := N_0
  have h := Pipeline.eq_sum_fin_of_reset_step_apply_last (fun n hn => accAt m hO c n hn) 54 (fun _ => (0 : EReal))
    (fun (p : Fin (cfgM m hO).N) (y : S256x5120.Idx) => ∑ k : Fin 512, B2 m hO c p (ix2 (y 0) k) * B5 m hO c p (ix2 0 k) * B4 m hO c p (ix2 (y 1) k))
    (fun p h0 y => by
      show accAt m hO c p.val p.isLt y = _
      rw [accAt_A m hO c p h0 (by omega)]
      unfold accStep
      pointwise [k0_pay2])
    (fun p h0 y => by
      show accAt m hO c p.val p.isLt y = _
      by_cases h1 : p.val % 54 = 53
      · rw [accAt_C m hO c p h0 h1]; rfl
      · rw [accAt_B m hO c p h0 h1]; rfl)
    (le_of_eq hN) t (ht.trans hN.symm) (ix2 i d)
  refine h.trans ?_
  rw [zero_add]
  unfold In.acc
  refine Fin.sum_mul_add_congr (hL := by rw [hN]) fun p k hl => ?_
  have hp : p.val < 54 := hN ▸ p.isLt
  show B2 m hO c p (ix2 i k) * B5 m hO c p (ix2 0 k) * B4 m hO c p (ix2 d k) = _
  rw [B2_apply m hO c p hp, B5_apply m hO c p hp, B4_apply m hO c p hp]

/-- The adapter's accumulator after the last point. -/
theorem tt_last (ht : t.val + 1 = 54) (r : Fin 16) (i : Fin 256) :
    ttAt m hO c t.val t.isLt (ix2 r i) = (inp m c).tt (bi i) (si i) r := by
  have hN : (cfgM m hO).N = 54 := N_0
  have h := Pipeline.eq_sum_fin_of_reset_step_apply_last (fun n hn => ttAt m hO c n hn) 54 (fun _ => (0 : EReal))
    (fun (p : Fin (cfgM m hO).N) (y : S16x256.Idx) => ∑ k : Fin 512, B7 m hO c p (ix2 (y 0) k) * B2 m hO c p (ix2 (y 1) k))
    (fun p h0 y => by
      show ttAt m hO c p.val p.isLt y = _
      rw [ttAt_A m hO c p h0 (by omega)]
      idx_vars y
      pointwise [k0_pay30, k0_pay16, k0_pay3])
    (fun p h0 y => by
      show ttAt m hO c p.val p.isLt y = _
      by_cases h1 : p.val % 54 = 53
      · rw [ttAt_C m hO c p h0 h1]
        idx_vars y
        pointwise [k0_pay30, k0_pay16]
        try rfl
      · rw [ttAt_B m hO c p h0 h1]
        idx_vars y
        pointwise [k0_pay30, k0_pay16]
        try rfl)
    (le_of_eq hN) t (ht.trans hN.symm) (ix2 r i)
  refine h.trans ?_
  rw [zero_add]
  unfold In.tt
  refine Fin.sum_mul_add_congr (hL := by rw [hN]) fun p k hl => ?_
  have hp : p.val < 54 := hN ▸ p.isLt
  show B7 m hO c p (ix2 r k) * B2 m hO c p (ix2 i k) = _
  rw [B7_apply m hO c p hp, B2_apply m hO c p hp]

/-- The scratch of split activations is written at the first point and held. -/
theorem xsp_held (y) : xspAt m hO c t.val t.isLt y
    = k0_pay5 (msk m) (B6 m hO c ⟨0, by rw [show (cfgM m hO).N = 54 from N_0]; omega⟩) (B0 m hO c ⟨0, by rw [show (cfgM m hO).N = 54 from N_0]; omega⟩) (B1 m hO c ⟨0, by rw [show (cfgM m hO).N = 54 from N_0]; omega⟩) (B3 m hO c ⟨0, by rw [show (cfgM m hO).N = 54 from N_0]; omega⟩) y := by
  have hN : (cfgM m hO).N = 54 := N_0
  have ht : t.val < 54 := hN ▸ t.isLt
  have h := Pipeline.eq_of_write_hold_apply (fun n hn => xspAt m hO c n hn) 54
    (fun p => k0_pay5 (msk m) (B6 m hO c p) (B0 m hO c p) (B1 m hO c p) (B3 m hO c p))
    (fun p h0 y => congrFun (xspAt_A m hO c p h0 (by omega)) y)
    (fun p h0 y => by
      by_cases h1 : p.val % 54 = 53
      · exact congrFun (xspAt_C m hO c p h0 h1) y
      · exact congrFun (xspAt_B m hO c p h0 h1) y) t y
  refine h.trans ?_
  have e : t.val / 54 = 0 := Nat.div_eq_of_lt ht
  congr 2 <;> simp [e]

theorem xa_held (y) : xaAt m hO c t.val t.isLt y
    = k0_pay6 (msk m) (B6 m hO c ⟨0, by rw [show (cfgM m hO).N = 54 from N_0]; omega⟩) (B0 m hO c ⟨0, by rw [show (cfgM m hO).N = 54 from N_0]; omega⟩) (B1 m hO c ⟨0, by rw [show (cfgM m hO).N = 54 from N_0]; omega⟩) y := by
  have hN : (cfgM m hO).N = 54 := N_0
  have ht : t.val < 54 := hN ▸ t.isLt
  have h := Pipeline.eq_of_write_hold_apply (fun n hn => xaAt m hO c n hn) 54
    (fun p => k0_pay6 (msk m) (B6 m hO c p) (B0 m hO c p) (B1 m hO c p))
    (fun p h0 y => congrFun (xaAt_A m hO c p h0 (by omega)) y)
    (fun p h0 y => by
      by_cases h1 : p.val % 54 = 53
      · exact congrFun (xaAt_C m hO c p h0 h1) y
      · exact congrFun (xaAt_B m hO c p h0 h1) y) t y
  refine h.trans ?_
  have e : t.val / 54 = 0 := Nat.div_eq_of_lt ht
  congr 2 <;> simp [e]

end Sums

end Cert.KernelIdeal.Gen
-- ==== Proof.Kernel.Results.lean ====
module

public import proofs.«01_k».proof.Proof.Kernel.Vals

/-! The kernel's five results, read at an index, as the plain sums of the specification, for finite inputs. -/

@[expose] public section

set_option maxRecDepth 16384

noncomputable section

namespace Cert.KernelIdeal.Gen

open Idealize.ShloMosaic Idealize.ShloMosaic.TcCoe Idealize.ShloMosaic.Tactic Pipeline Cert.Lora

/-! The payloads at an index, over any operands; the second and third piece of a split value are zero where it is finite. -/

theorem pay5_apply (M : FVec Ideal S1x256 .f32) (a : Vec Ideal S5120x16 .bf16) (x : Vec Ideal S256x5120 .fp8e4m3) (xs dys : Vec Ideal S1x256 .f32)
    (q : Fin 16 → Fin 256 → EReal) (hq : ∀ r i, (∑ k : Fin 5120, a (ix2 k r) * x (ix2 i k)) * xs (ix2 0 i) * M (ix2 0 i) * dys (ix2 0 i) = q r i)
    (hf : ∀ r i, Fi (q r i)) (p : Fin 48) (i : Fin 256) :
    k0_pay5 M a x xs dys (ix2 p i) = if h : p.val < 16 then q ⟨p.val, h⟩ i else 0 := by
  have e : k0_pay5 M a x xs dys (ix2 p i) = if h : p.val < 16 then q ⟨p.val, h⟩ i else if h : p.val - 16 < 16 then q ⟨p.val - 16, h⟩ i - q ⟨p.val - 16, h⟩ i
      else q ⟨p.val - 16 - 16, by omega⟩ i - q ⟨p.val - 16 - 16, by omega⟩ i - (q ⟨p.val - 16 - 16, by omega⟩ i - q ⟨p.val - 16 - 16, by omega⟩ i) := by
    simp only [← hq]
    pointwise [k0_pay5, k0_pay4]
  rw [e]
  split
  · rfl
  · split
    · exact (hf _ _).sub_self
    · rw [(hf _ _).sub_self]; exact Fi.zero.sub_self

theorem pay31_apply (dy : Vec Ideal S256x512 .fp8e5m2) (xsp : Vec Ideal S48x256 .bf16) (q : Fin 16 → Fin 256 → EReal)
    (hq : ∀ p i, xsp (ix2 p i) = if h : p.val < 16 then q ⟨p.val, h⟩ i else 0) (r : Fin 16) (k : Fin 512) :
    k0_pay31 (k0_pay16 dy) xsp (ix2 r k) = two * ∑ i : Fin 256, q r i * dy (ix2 i k) := by
  pointwise [k0_pay31, k0_pay16]
  simp only [hq]
  rw [Finset.sum_congr rfl fun x _ => congrArg (· * dy (ix2 x k)) (dif_pos (show r.val < 16 from r.isLt))]
  simp only [show ∀ h : ℕ, ¬16 + h < 16 from by omega, show ∀ h : ℕ, ¬32 + h < 16 from by omega, dite_false, zero_mul, Finset.sum_const_zero, add_zero]
  rfl

theorem pay9_apply (M : FVec Ideal S1x256 .f32) (T : FVec Ideal S16x256 .f32) (dys xs : Vec Ideal S1x256 .f32) (x : Vec Ideal S256x5120 .fp8e4m3)
    (q : Fin 16 → Fin 256 → EReal) (hq : ∀ r i, T (ix2 r i) * dys (ix2 0 i) * M (ix2 0 i) * xs (ix2 0 i) = q r i)
    (hf : ∀ r i, Fi (q r i)) (d : Fin 5120) (r : Fin 16) :
    k0_pay9 M T dys xs x (ix2 d r) = two * ∑ i : Fin 256, q r i * x (ix2 i d) := by
  pointwise [k0_pay9, k0_pay7]
  simp only [hq, (hf _ _).sub_self, Fi.zero.sub_self, show ∀ h : ℕ, ¬32 + h < 16 from by omega, dite_false, zero_mul, Finset.sum_const_zero, add_zero, dite_eq_ite, ite_self]
  rfl

theorem pay1_apply (M : FVec Ideal S1x256 .f32) (T : FVec Ideal S16x256 .f32) (dys : Vec Ideal S1x256 .f32) (a : Vec Ideal S5120x16 .bf16) (acc : Vec Ideal S256x5120 .f32)
    (q : Fin 16 → Fin 256 → EReal) (hq : ∀ r i, two * (T (ix2 r i) * dys (ix2 0 i) * M (ix2 0 i)) = q r i)
    (hf : ∀ r i, Fi (q r i)) (b : Fin 2) (s : Fin 128) (d : Fin 5120) :
    k0_pay1 M (k0_pay11 M T dys) (k0_pay13 M T dys) (k0_pay14 M T dys) a dys acc (ix3 b s d)
      = acc (ix2 (row b s) d) * (dys (ix2 0 (row b s)) * M (ix2 0 (row b s)))
        + (∑ r : Fin 16, q r (row b s) * a (ix2 d r)) * M (ix2 0 (row b s)) := by
  have e11 : ∀ r i, k0_pay11 M T dys (ix2 r i) = q r i := fun r i => by
    pointwise [k0_pay11, k0_pay10, k0_pay7]
    exact hq r i
  have e13 : ∀ r i, k0_pay13 M T dys (ix2 r i) = 0 := fun r i => by
    have h : k0_pay13 M T dys (ix2 r i) = q r i - q r i := by
      rw [← hq]; pointwise [k0_pay13, k0_pay12, k0_pay11, k0_pay10, k0_pay7]; try rfl
    rw [h]; exact (hf r i).sub_self
  have e14 : ∀ r i, k0_pay14 M T dys (ix2 r i) = 0 := fun r i => by
    have h : k0_pay14 M T dys (ix2 r i) = q r i - q r i - (q r i - q r i) := by
      rw [← hq]; pointwise [k0_pay14, k0_pay13, k0_pay12, k0_pay11, k0_pay10, k0_pay7]; try rfl
    rw [h, (hf r i).sub_self]; exact Fi.zero.sub_self
  pointwise [k0_pay1]
  simp only [e11, e13, e14]
  refine congrArg (fun z => _ + z * _) (sum48 _ _ (fun r h => ?_) fun p h => ?_)
  · rw [dif_pos r.isLt, dif_pos r.isLt]; rfl
  · rw [dif_neg h]; simp

variable (m : (ℓ : Loc nD τ sig) → Buf (Elt Ideal) ℓ) (hO : Ok m) (c : Dev nD) (t : Fin (cfgM m hO).N)

variable (hP : (inp m c).Ok)
include hP

/-- The mask the body computes is the specification's. -/
theorem msk_apply (i : Fin 256) : msk m (ix2 0 i) = (inp m c).M (bi i) (si i) := by
  have hc : c = 0 := Subsingleton.elim _ _
  have e : (tbl m 0 : IVec S2 32) = (m ((c : Thread nD τ).loc main_arg8) : IVec S2 32) := (V_pre m c 0).symm.trans (V_main_arg8 m c)
  unfold msk
  rw [e]
  exact mskOf_apply _ hP.LEN i

/-- The fourth result. -/
theorem t_res (ht : t.val + 1 = 54) (b : Fin 2) (s : Fin 128) (r : Fin 16) :
    (outsAt0 m hO c t.val t.isLt).2.2.2.1 (ix3 b s r) = (inp m c).t b s r := by
  rw [t_C m hO c t (by omega) (by omega)]
  pointwise [k0_pay8, k0_pay7]
  rw [tt_last m hO c t ht, B3_apply m hO c t (by omega), msk_apply m c hP, bi_mk, si_mk]
  rfl

/-- The fifth result. -/
theorem pay6_res (ht : t.val < 54) (b : Fin 2) (s : Fin 128) (r : Fin 16) :
    k0_pay6 (msk m) (B6 m hO c t) (B0 m hO c t) (B1 m hO c t) (ix3 b s r) = (inp m c).xa b s r := by
  pointwise [k0_pay6, k0_pay4]
  simp only [B6_apply m hO c t ht, B0_apply m hO c t ht, B1_apply m hO c t ht, msk_apply m c hP, bi_mk, si_mk]
  rfl
theorem xa_res (b : Fin 2) (s : Fin 128) (r : Fin 16) :
    xaAt m hO c t.val t.isLt (ix3 b s r) = (inp m c).xa b s r :=
  (xa_held m hO c t _).trans (pay6_res m hO c _ hP (by show 0 < 54; omega) b s r)

/-- The split activations, held from the first point. -/
theorem xsp_apply (p : Fin 48) (i : Fin 256) :
    xspAt m hO c t.val t.isLt (ix2 p i) = if h : p.val < 16 then (inp m c).xa (bi i) (si i) ⟨p.val, h⟩ * (inp m c).DYS (bi i) (si i) else 0 := by
  rw [xsp_held m hO c t]
  generalize ht : (⟨0, _⟩ : Fin (cfgM m hO).N) = t'
  have h54 : t'.val < 54 := by rw [← ht]; show 0 < 54; omega
  refine pay5_apply _ _ _ _ _ (fun r i => (inp m c).xa (bi i) (si i) r * (inp m c).DYS (bi i) (si i)) (fun r i => ?_) (fun r i => (hP.xa _ _ _).mul (hP.DYS _ _)) p i
  simp only [B6_apply m hO c t' h54, B0_apply m hO c t' h54, B1_apply m hO c t' h54, B3_apply m hO c t' h54, msk_apply m c hP]
  rfl

/-- The third result: the block stored at a point. -/
theorem db_res (r : Fin 16) (k : Fin 512) (ht : t.val < 54) :
    (outsAt0 m hO c t.val t.isLt).2.2.1 (ix2 r k) = (inp m c).db r ⟨t.val * 512 + k.val, by omega⟩ := by
  have h : (outsAt0 m hO c t.val t.isLt).2.2.1 = k0_pay31 (k0_pay16 (B2 m hO c t)) (xspAt m hO c t.val t.isLt) := by
    by_cases h0 : t.val % 54 = 0
    · rw [db_A m hO c t h0 (by omega), xspAt_A m hO c t h0 (by omega)]
    · by_cases h1 : t.val % 54 = 53
      · rw [db_C m hO c t h0 h1, xspAt_C m hO c t h0 h1]
      · rw [db_B m hO c t h0 h1, xspAt_B m hO c t h0 h1]
  rw [h, pay31_apply _ _ (fun r i => (inp m c).xa (bi i) (si i) r * (inp m c).DYS (bi i) (si i)) (xsp_apply m hO c t hP)]
  simp only [B2_apply m hO c t ht]
  unfold In.db
  rw [← sum_rows]

/-- The first result. -/
theorem dx_res (ht : t.val + 1 = 54) (b : Fin 2) (s : Fin 128) (d : Fin 5120) :
    (outsAt0 m hO c t.val t.isLt).1 (ix3 b s d) = (inp m c).dx b s d := by
  have h54 : t.val < 54 := by omega
  rw [dx_C m hO c t (by omega) (by omega)]
  rw [pay1_apply _ _ _ _ _ (fun r i => two * (inp m c).t (bi i) (si i) r) (fun r i => by
      rw [tt_last m hO c t ht, B3_apply m hO c t h54, msk_apply m c hP]; rfl) (fun r i => Fi.two.mul (hP.t _ _ _))]
  simp only [acc_last m hO c t ht, B3_apply m hO c t h54, B6_apply m hO c t h54, msk_apply m c hP, bi_row, si_row]
  rfl

/-- The second result. -/
theorem da_res (ht : t.val + 1 = 54) (d : Fin 5120) (r : Fin 16) :
    (outsAt0 m hO c t.val t.isLt).2.1 (ix2 d r) = (inp m c).da d r := by
  have h54 : t.val < 54 := by omega
  rw [da_C m hO c t (by omega) (by omega)]
  rw [pay9_apply _ _ _ _ _ (fun r i => (inp m c).t (bi i) (si i) r * (inp m c).XS (bi i) (si i)) (fun r i => by
      rw [tt_last m hO c t ht, B3_apply m hO c t h54, B1_apply m hO c t h54, msk_apply m c hP]; rfl) (fun r i => (hP.t _ _ _).mul (hP.XS _ _))]
  simp only [B0_apply m hO c t h54]
  unfold In.da
  rw [← sum_rows]

end Cert.KernelIdeal.Gen
-- ==== Proof.Kernel.Final.lean ====
module

public import proofs.«01_k».proof.Proof.Kernel.Results

/-! The result arrays after the run: four are written back whole after the last point, the fifth block by block. -/
@[expose] public section

set_option maxRecDepth 16384

noncomputable section

namespace Cert.KernelIdeal.Gen

open Idealize.ShloMosaic Idealize.ShloMosaic.TcCoe Idealize.ShloMosaic.Tactic Pipeline Cert.Lora

/-- The last point. -/
def t53 : Fin grid0.N := ⟨53, by rw [N_0]; decide⟩
theorem lt54 (t : Fin grid0.N) : t.val < 54 := lt_of_lt_of_eq t.isLt N_0

theorem whole8 (a : (pcfg0 (F := Ideal)).Adm) : ((cfg0 a).win 8).WholeAt t53 :=
  ⟨(flush0_8 a t53).mpr rfl, fun t ht => Fin.ext (by
    have h1 := (flush0_8 a t).mp ht
    have h2 := lt54 t
    show t.val = 53
    omega), fun x => match x with
    | ⟨0, _⟩ => ⟨rfl, rfl⟩
    | ⟨1, _⟩ => ⟨rfl, rfl⟩
    | ⟨2, _⟩ => ⟨rfl, rfl⟩
    ⟩
/-- Window 8's array after the run, from what the last point leaves. -/
theorem arr8 (a : (pcfg0 (F := Ideal)).Adm) (c : Dev nD) (dat : Dat τ (Elt Ideal) Unit ℕ (UR sig nD τ) ℕ (cfg0 a) c) (G : Vec Ideal S2x128x5120 .bf16)
    (h : ∀ j : Shape.Idx S2x128x5120, (dat.after 8 t53 : Vec Ideal S2x128x5120 .bf16) j = G j) : dat.arrAt 8 (cfg0 a).N = G :=
  dat.arrAt_eq_of_after_last 8 t53 (whole8 a) G fun j => h j

theorem whole9 (a : (pcfg0 (F := Ideal)).Adm) : ((cfg0 a).win 9).WholeAt t53 :=
  ⟨(flush0_9 a t53).mpr rfl, fun t ht => Fin.ext (by
    have h1 := (flush0_9 a t).mp ht
    have h2 := lt54 t
    show t.val = 53
    omega), fun x => match x with
    | ⟨0, _⟩ => ⟨rfl, rfl⟩
    | ⟨1, _⟩ => ⟨rfl, rfl⟩
    ⟩
/-- Window 9's array after the run, from what the last point leaves. -/
theorem arr9 (a : (pcfg0 (F := Ideal)).Adm) (c : Dev nD) (dat : Dat τ (Elt Ideal) Unit ℕ (UR sig nD τ) ℕ (cfg0 a) c) (G : Vec Ideal S5120x16 .f32)
    (h : ∀ j : Shape.Idx S5120x16, (dat.after 9 t53 : Vec Ideal S5120x16 .f32) j = G j) : dat.arrAt 9 (cfg0 a).N = G :=
  dat.arrAt_eq_of_after_last 9 t53 (whole9 a) G fun j => h j

theorem whole11 (a : (pcfg0 (F := Ideal)).Adm) : ((cfg0 a).win 11).WholeAt t53 :=
  ⟨(flush0_11 a t53).mpr rfl, fun t ht => Fin.ext (by
    have h1 := (flush0_11 a t).mp ht
    have h2 := lt54 t
    show t.val = 53
    omega), fun x => match x with
    | ⟨0, _⟩ => ⟨rfl, rfl⟩
    | ⟨1, _⟩ => ⟨rfl, rfl⟩
    | ⟨2, _⟩ => ⟨rfl, rfl⟩
    ⟩
/-- Window 11's array after the run, from what the last point leaves. -/
theorem arr11 (a : (pcfg0 (F := Ideal)).Adm) (c : Dev nD) (dat : Dat τ (Elt Ideal) Unit ℕ (UR sig nD τ) ℕ (cfg0 a) c) (G : Vec Ideal S2x128x16 .f32)
    (h : ∀ j : Shape.Idx S2x128x16, (dat.after 11 t53 : Vec Ideal S2x128x16 .f32) j = G j) : dat.arrAt 11 (cfg0 a).N = G :=
  dat.arrAt_eq_of_after_last 11 t53 (whole11 a) G fun j => h j

theorem whole12 (a : (pcfg0 (F := Ideal)).Adm) : ((cfg0 a).win 12).WholeAt t53 :=
  ⟨(flush0_12 a t53).mpr rfl, fun t ht => Fin.ext (by
    have h1 := (flush0_12 a t).mp ht
    have h2 := lt54 t
    show t.val = 53
    omega), fun x => match x with
    | ⟨0, _⟩ => ⟨rfl, rfl⟩
    | ⟨1, _⟩ => ⟨rfl, rfl⟩
    | ⟨2, _⟩ => ⟨rfl, rfl⟩
    ⟩
/-- Window 12's array after the run, from what the last point leaves. -/
theorem arr12 (a : (pcfg0 (F := Ideal)).Adm) (c : Dev nD) (dat : Dat τ (Elt Ideal) Unit ℕ (UR sig nD τ) ℕ (cfg0 a) c) (G : Vec Ideal S2x128x16 .f32)
    (h : ∀ j : Shape.Idx S2x128x16, (dat.after 12 t53 : Vec Ideal S2x128x16 .f32) j = G j) : dat.arrAt 12 (cfg0 a).N = G :=
  dat.arrAt_eq_of_after_last 12 t53 (whole12 a) G fun j => h j

theorem emb10 (a : (pcfg0 (F := Ideal)).Adm) (t : Fin grid0.N) (r : Fin 16) (k : Fin 512) :
    (((cfg0 a).win 10).blk t).view.emb (ix2 r k : Shape.Idx S16x512) = (ix2 r ⟨t.val * 512 + k.val, by have := lt54 t; omega⟩ : Shape.Idx S16x27648) := by
  have h := lt54 t
  refine funext fun a => ?_
  match a with
  | ⟨0, _⟩ => exact Fin.ext (show (0#32 : BitVec 32).toNat * 16 + 1 * r.val = r.val by rw [show (0#32 : BitVec 32).toNat = 0 from rfl]; omega)
  | ⟨1, _⟩ => exact Fin.ext (show (BitVec.ofNat 32 (grid0.coords t 0).val).toNat * 512 + 1 * k.val = t.val * 512 + k.val by rw [coord_val t]; omega)
theorem emb10' (a : (pcfg0 (F := Ideal)).Adm) (t : Fin grid0.N) (y : Shape.Idx S16x512) :
    (((cfg0 a).win 10).blk t).view.emb y = (ix2 (y 0 : Fin 16) ⟨t.val * 512 + (y 1 : Fin 512).val, by have := lt54 t; have h2 : (y 1 : Fin 512).val < 512 := (y 1 : Fin 512).isLt; omega⟩ : Shape.Idx S16x27648) := by
  have e : y = ix2 (y 0 : Fin 16) (y 1 : Fin 512) := by
    refine funext fun a => ?_
    match a with
    | ⟨0, _⟩ => rfl
    | ⟨1, _⟩ => rfl
  exact (congrArg (((cfg0 a).win 10).blk t).view.emb e).trans (emb10 a t (y 0) (y 1))
theorem cov10 (a : (pcfg0 (F := Ideal)).Adm) (i : Shape.Idx S16x27648) : ∃ t : Fin grid0.N, ((cfg0 a).win 10).flush t = true ∧ i ∈ (((cfg0 a).win 10).blk t).view.set := by
  have hk : (i 1 : Fin 27648).val < 27648 := (i 1 : Fin 27648).isLt
  refine ⟨⟨(i 1 : Fin 27648).val / 512, by rw [N_0]; omega⟩, flush0_10 a _, ?_⟩
  have h1 := (((cfg0 a).win 10).blk (⟨(i 1 : Fin 27648).val / 512, by rw [N_0]; omega⟩ : Fin grid0.N)).view.emb_mem_set
    (ix2 (i 0 : Fin 16) ⟨(i 1 : Fin 27648).val % 512, by omega⟩ : Shape.Idx S16x512)
  have h2 := emb10 a (⟨(i 1 : Fin 27648).val / 512, by rw [N_0]; omega⟩ : Fin grid0.N) (i 0) ⟨(i 1 : Fin 27648).val % 512, by omega⟩
  have h3 : (ix2 (i 0 : Fin 16) ⟨(i 1 : Fin 27648).val / 512 * 512 + (i 1 : Fin 27648).val % 512, by omega⟩ : Shape.Idx S16x27648) = i := by
    refine funext fun a => ?_
    match a with
    | ⟨0, _⟩ => rfl
    | ⟨1, _⟩ => exact Fin.ext (show (i 1 : Fin 27648).val / 512 * 512 + (i 1 : Fin 27648).val % 512 = (i 1 : Fin 27648).val by omega)
  have h4 := h2.trans h3
  have hq : (i 1 : Fin 27648).val / 512 < grid0.N := by rw [N_0]; omega
  exact Eq.mp (congrArg (fun z : (((cfg0 a).win 10).blk (⟨(i 1 : Fin 27648).val / 512, hq⟩ : Fin grid0.N)).view.ty.Idx => z ∈ (((cfg0 a).win 10).blk (⟨(i 1 : Fin 27648).val / 512, hq⟩ : Fin grid0.N)).view.set) h4) h1
/-- Window 10's array after the run, from the block each point leaves. -/
theorem arr10 (a : (pcfg0 (F := Ideal)).Adm) (c : Dev nD) (dat : Dat τ (Elt Ideal) Unit ℕ (UR sig nD τ) ℕ (cfg0 a) c) (G : Vec Ideal S16x27648 .f32)
    (h : ∀ (t : Fin grid0.N) (y : Shape.Idx S16x512), (dat.after 10 t : Vec Ideal S16x512 .f32) y
      = G (ix2 (y 0 : Fin 16) ⟨t.val * 512 + (y 1 : Fin 512).val, by have := lt54 t; have h2 : (y 1 : Fin 512).val < 512 := (y 1 : Fin 512).isLt; omega⟩)) :
    dat.arrAt 10 (cfg0 a).N = G :=
  dat.arrAt_eq_of_emb 10 G (fun t hf y => (h t y).trans (congrArg G (emb10' a t y).symm)) (fun i => cov10 a i)

variable (m : (ℓ : Loc nD τ sig) → Buf (Elt Ideal) ℓ) (hO : Ok m) (c : Dev nD) (hP : (inp m c).Ok)
include hP

theorem fin8 (B : Vec Ideal S2x128x5120 .bf16) (hB : B = (dats m hO 0 c).arrAt 8 (cfgM m hO).N) : B = (fun j => (inp m c).dx (j 0) (j 1) (j 2)) :=
  hB.trans (arr8 (adm m hO) c (dats m hO 0 c) _ fun j => (congrFun (after0_8 m hO c t53) j).trans (by
    idx_vars j
    exact dx_res m hO c t53 hP rfl _ _ _))

theorem fin9 (B : Vec Ideal S5120x16 .f32) (hB : B = (dats m hO 0 c).arrAt 9 (cfgM m hO).N) : B = (fun j => (inp m c).da (j 0) (j 1)) :=
  hB.trans (arr9 (adm m hO) c (dats m hO 0 c) _ fun j => (congrFun (after0_9 m hO c t53) j).trans (by
    idx_vars j
    exact da_res m hO c t53 hP rfl _ _))

theorem fin11 (B : Vec Ideal S2x128x16 .f32) (hB : B = (dats m hO 0 c).arrAt 11 (cfgM m hO).N) : B = (fun j => (inp m c).t (j 0) (j 1) (j 2)) :=
  hB.trans (arr11 (adm m hO) c (dats m hO 0 c) _ fun j => (congrFun (after0_11 m hO c t53) j).trans (by
    idx_vars j
    exact t_res m hO c t53 hP rfl _ _ _))

theorem fin12 (B : Vec Ideal S2x128x16 .f32) (hB : B = (dats m hO 0 c).arrAt 12 (cfgM m hO).N) : B = (fun j => (inp m c).xa (j 0) (j 1) (j 2)) :=
  hB.trans (arr12 (adm m hO) c (dats m hO 0 c) _ fun j => (congrFun (after0_12 m hO c t53) j).trans (by
    idx_vars j
    exact xa_res m hO c t53 hP _ _ _))

theorem fin10 (B : Vec Ideal S16x27648 .f32) (hB : B = (dats m hO 0 c).arrAt 10 (cfgM m hO).N) : B = fun j => (inp m c).db (j 0) (j 1) :=
  hB.trans (arr10 (adm m hO) c (dats m hO 0 c) _ fun t y => (congrFun (after0_10 m hO c t) y).trans (by
    idx_vars y
    exact db_res m hO c t hP _ _ (lt54 t)))

end Cert.KernelIdeal.Gen
-- ==== Proof.Kernel.Post.lean ====
module

public import proofs.«01_k».proof.Proof.Kernel.Final

/-! The run of the kernel at the ideal instance: its five results are the sums of the specification, its arguments unchanged. -/
@[expose] public section

set_option maxRecDepth 16384

noncomputable section

namespace Cert.KernelIdeal.Gen

open Idealize.ShloMosaic Idealize.ShloMosaic.TcCoe Idealize.ShloMosaic.Tactic Pipeline Cert.Lora

variable (m : (ℓ : Loc nD τ sig) → Buf (Elt Ideal) ℓ) (g : Dev nD → PrngReg)

theorem run_results (hP : ∀ c, (inp m c).Ok) : θ_run (defs (F := Ideal)) (onTc (τ := τ) (main (F := Ideal))) ⟨m, fun _ => 0, g⟩ (fun r => ∀ c : Dev nD,
r.2.mem ((c.tc : Thread nD τ).loc main_v8_0) = ((fun j => (inp m c).dx (j 0) (j 1) (j 2)) : Vec Ideal S2x128x5120 .bf16)
      ∧ r.2.mem ((c.tc : Thread nD τ).loc main_v8_1) = ((fun j => (inp m c).da (j 0) (j 1)) : Vec Ideal S5120x16 .f32)
      ∧ r.2.mem ((c.tc : Thread nD τ).loc main_v8_2) = ((fun j => (inp m c).db (j 0) (j 1)) : Vec Ideal S16x27648 .f32)
      ∧ r.2.mem ((c.tc : Thread nD τ).loc main_v8_3) = ((fun j => (inp m c).t (j 0) (j 1) (j 2)) : Vec Ideal S2x128x16 .f32)
      ∧ r.2.mem ((c.tc : Thread nD τ).loc main_v8_4) = ((fun j => (inp m c).xa (j 0) (j 1) (j 2)) : Vec Ideal S2x128x16 .f32)) :=
  (θ_run defs _ _).mono (fun r h c => ⟨fin8 m trivial c (hP c) _ (h.out_eq c 8), fin9 m trivial c (hP c) _ (h.out_eq c 9), fin10 m trivial c (hP c) _ (h.out_eq c 10), fin11 m trivial c (hP c) _ (h.out_eq c 11), fin12 m trivial c (hP c) _ (h.out_eq c 12)⟩) (run_main m g trivial)

end Cert.KernelIdeal.Gen
-- ==== Proof.Ref.Tail.lean ====
module

public import proofs.«01_k».proof.Proof.Gen.ReferenceIdeal.Frame
public import proofs.«01_k».proof.Proof.Spec
public import Idealize.ShloMosaic.Lib.Claim
public import Idealize.ShloMosaic.Lib.StableHlo.ReadAt
public import Idealize.ShloMosaic.Lib.Pipeline.ValueKit.Point

/-! The reference's five results, read at an index, as the plain sums of the specification. -/

@[expose] public section

set_option maxRecDepth 16384

noncomputable section

namespace Cert.ReferenceIdeal.Gen

open Idealize.ShloMosaic Idealize.ShloMosaic.TcCoe Idealize.ShloMosaic.Tactic Pipeline Cert.Lora

/-- The problem's inputs as the host lines after the cast call find them. -/
def inU (U : Valuation τ sig (Elt Ideal)) : Cert.Lora.In where
  X b s k := (U (Proc.devRef .tc main_v3_0) : Vec Ideal S2x128x5120 .bf16) (ix3 b s k)
  XS b s := (U (Proc.devRef .tc main_arg1) : Vec Ideal S2x128 .f32) (ix2 b s)
  DY b s o := (U (Proc.devRef .tc main_v3_1) : Vec Ideal S2x128x27648 .bf16) (ix3 b s o)
  DYS b s := (U (Proc.devRef .tc main_arg3) : Vec Ideal S2x128 .f32) (ix2 b s)
  W d o := (U (Proc.devRef .tc main_v3_2) : Vec Ideal S5120x27648 .bf16) (ix2 d o)
  WS o := (U (Proc.devRef .tc main_arg5) : Vec Ideal S27648 .f32) (ix1 o)
  A d r := (U (Proc.devRef .tc main_arg6) : Vec Ideal S5120x16 .bf16) (ix2 d r)
  B r o := (U (Proc.devRef .tc main_arg7) : Vec Ideal S16x27648 .bf16) (ix2 r o)
  LEN b := (U (Proc.devRef .tc main_arg8) : IVec S2 32) (ix1 b)

/-- The mask as the reference computes it. -/
theorem mask_ref (s : Fin 128) (l : BitVec 32) :
    (FloatOps.uitofp FTy.f32 (IntOp.cmpi CmpIPredicate.slt (BitVec.ofNat 32 s.val) l) : Ideal .f32) = if (s.val : ℤ) < l.toInt then (1 : EReal) else 0 := by
  have hs : (BitVec.ofNat 32 s.val).toInt = s.val := by
    rw [BitVec.toInt_ofNat', Int.bmod_def]; omega
  by_cases h : (s.val : ℤ) < l.toInt
  · rw [if_pos h]
    simp [IntOp.cmpi, BitVec.slt_eq_decide, hs, h, FloatOps.uitofp]
    done
  · rw [if_neg h]
    simp [IntOp.cmpi, BitVec.slt_eq_decide, hs, h, FloatOps.uitofp]
    done

/-- Two packs of inputs with the same fields are the same. -/
theorem _root_.Cert.Lora.In.ext_of {P Q : Cert.Lora.In} (h0 : P.X = Q.X) (h1 : P.XS = Q.XS) (h2 : P.DY = Q.DY) (h3 : P.DYS = Q.DYS) (h4 : P.W = Q.W)
    (h5 : P.WS = Q.WS) (h6 : P.A = Q.A) (h7 : P.B = Q.B) (h8 : P.LEN = Q.LEN) : P = Q := by
  cases P; cases Q; simp_all only

section
variable (U : Valuation τ sig (Elt Ideal))

/-- The mask, the adapters' sums and the weight's sum, as the host lines write them. -/
theorem mask_form (b : Fin 2) (s : Fin 128) :
    (FloatOps.uitofp FTy.f32 (IntOp.cmpi CmpIPredicate.slt (BitVec.ofNat 32 s.val) ((U (Proc.devRef .tc main_arg8) : IVec S2 32) (ix1 b))) : Ideal .f32) = (inU U).M b s :=
  mask_ref s _
theorem tt_form (b : Fin 2) (s : Fin 128) (r : Fin 16) :
    (∑ x : Fin 27648, @HMul.hMul EReal EReal EReal _ ((U (Proc.devRef .tc main_v3_1) : Vec Ideal S2x128x27648 .bf16) (ix3 b s x)) ((U (Proc.devRef .tc main_arg7) : Vec Ideal S16x27648 .bf16) (ix2 r x))) = (inU U).tt b s r :=
  Finset.sum_congr rfl fun o _ => mul_comm (G := EReal) _ _
theorem xx_form (b : Fin 2) (s : Fin 128) (r : Fin 16) :
    (∑ x : Fin 5120, @HMul.hMul EReal EReal EReal _ ((U (Proc.devRef .tc main_v3_0) : Vec Ideal S2x128x5120 .bf16) (ix3 b s x)) ((U (Proc.devRef .tc main_arg6) : Vec Ideal S5120x16 .bf16) (ix2 x r))) = ∑ x : Fin 5120, (inU U).A x r * (inU U).X b s x :=
  Finset.sum_congr rfl fun o _ => mul_comm (G := EReal) _ _
theorem acc_form (b : Fin 2) (s : Fin 128) (d : Fin 5120) :
    (∑ x : Fin 27648, @HMul.hMul EReal EReal EReal _ ((U (Proc.devRef .tc main_v3_1) : Vec Ideal S2x128x27648 .bf16) (ix3 b s x)) (@HMul.hMul EReal EReal EReal _ ((U (Proc.devRef .tc main_v3_2) : Vec Ideal S5120x27648 .bf16) (ix2 d x)) ((U (Proc.devRef .tc main_arg5) : Vec Ideal S27648 .f32) (ix1 x)))) = (inU U).acc b s d :=
  Finset.sum_congr rfl fun o _ => by
    show (inU U).DY b s o * ((inU U).W d o * (inU U).WS o) = (inU U).DY b s o * (inU U).WS o * (inU U).W d o
    rw [mul_comm ((inU U).W d o), mul_assoc]

theorem t_at (b : Fin 2) (s : Fin 128) (r : Fin 16) :
    (StableHlo.after hostOps1 U (Proc.devRef .tc main_v17) : Vec Ideal S2x128x16 .f32) (ix3 b s r) = (inU U).t b s r := by
  after_reads_at
  simp only [mask_form, tt_form]
  rfl
theorem xa_at (b : Fin 2) (s : Fin 128) (r : Fin 16) :
    (StableHlo.after hostOps1 U (Proc.devRef .tc main_v23) : Vec Ideal S2x128x16 .f32) (ix3 b s r) = (inU U).xa b s r := by
  after_reads_at
  simp only [mask_form, xx_form]
  rfl
theorem dx_at (b : Fin 2) (s : Fin 128) (r : Fin 5120) (hP : (inU U).Ok) :
    (StableHlo.after hostOps1 U (Proc.devRef .tc main_v39) : Vec Ideal S2x128x5120 .bf16) (ix3 b s r) = (inU U).dx b s r := by
  rw [← hP.dx_eq]
  after_reads_at
  simp only [mask_form, tt_form, acc_form]
  rfl
theorem da_at (d : Fin 5120) (r : Fin 16) :
    (StableHlo.after hostOps1 U (Proc.devRef .tc main_v46) : Vec Ideal S5120x16 .f32) (ix2 d r) = (inU U).da d r := by
  after_reads_at
  simp only [mask_form, tt_form]
  refine congrArg (fun z : EReal => two * z) (Finset.sum_congr rfl fun b _ => Finset.sum_congr rfl fun s _ => ?_)
  show (inU U).X b s d * ((inU U).XS b s * (inU U).t b s r) = (inU U).t b s r * (inU U).XS b s * (inU U).X b s d
  rw [mul_comm ((inU U).XS b s), mul_comm]
theorem db_at (d : Fin 27648) (r : Fin 16) :
    (StableHlo.after hostOps1 U (Proc.devRef .tc main_v53) : Vec Ideal S16x27648 .f32) (ix2 r d) = (inU U).db r d := by
  after_reads_at
  simp only [mask_form, xx_form]
  rfl
end

variable (m : (ℓ : Loc nD τ sig) → Buf (Elt Ideal) ℓ)

/-- The buffers after the cast call. -/
def U1 (c : Dev nD) : Valuation τ sig (Elt Ideal) := Pipeline.withArrays (cfgs 0).spec c (V0 m c) fun w => (dats m 0 c).arrAt w (cfgs 0).N

/-- The problem's inputs as the arguments hold them on device `c`. -/
def inp (c : Dev nD) : Cert.Lora.In where
  X b s k := (bitcastToFloat (s := S2x128x5120) .fp8e4m3 (m ((c : Thread nD τ).loc main_arg0)) : FVec Ideal S2x128x5120 .fp8e4m3) (ix3 b s k)
  XS b s := (m ((c : Thread nD τ).loc main_arg1) : Vec Ideal S2x128 .f32) (ix2 b s)
  DY b s o := (bitcastToFloat (s := S2x128x27648) .fp8e5m2 (m ((c : Thread nD τ).loc main_arg2)) : FVec Ideal S2x128x27648 .fp8e5m2) (ix3 b s o)
  DYS b s := (m ((c : Thread nD τ).loc main_arg3) : Vec Ideal S2x128 .f32) (ix2 b s)
  W d o := (bitcastToFloat (s := S5120x27648) .fp8e4m3 (m ((c : Thread nD τ).loc main_arg4)) : FVec Ideal S5120x27648 .fp8e4m3) (ix2 d o)
  WS o := (m ((c : Thread nD τ).loc main_arg5) : Vec Ideal S27648 .f32) (ix1 o)
  A d r := (m ((c : Thread nD τ).loc main_arg6) : Vec Ideal S5120x16 .bf16) (ix2 d r)
  B r o := (m ((c : Thread nD τ).loc main_arg7) : Vec Ideal S16x27648 .bf16) (ix2 r o)
  LEN b := (m ((c : Thread nD τ).loc main_arg8) : IVec S2 32) (ix1 b)

theorem U1_arg1 (c : Dev nD) : U1 m c (Proc.devRef .tc main_arg1) = m ((c : Thread nD τ).loc main_arg1) :=
  (Pipeline.withArrays_of_ne _ c (V0 m c) _ main_arg1 (by exact (by decide : ∀ w, Pipeline.arrRef spec0 w ≠ main_arg1))).trans (V_main_arg1 m c)

theorem U1_arg3 (c : Dev nD) : U1 m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)

theorem U1_arg5 (c : Dev nD) : U1 m c (Proc.devRef .tc main_arg5) = m ((c : Thread nD τ).loc main_arg5) :=
  (Pipeline.withArrays_of_ne _ c (V0 m c) _ main_arg5 (by exact (by decide : ∀ w, Pipeline.arrRef spec0 w ≠ main_arg5))).trans (V_main_arg5 m c)

theorem U1_arg6 (c : Dev nD) : U1 m c (Proc.devRef .tc main_arg6) = m ((c : Thread nD τ).loc main_arg6) :=
  (Pipeline.withArrays_of_ne _ c (V0 m c) _ main_arg6 (by exact (by decide : ∀ w, Pipeline.arrRef spec0 w ≠ main_arg6))).trans (V_main_arg6 m c)

theorem U1_arg7 (c : Dev nD) : U1 m c (Proc.devRef .tc main_arg7) = m ((c : Thread nD τ).loc main_arg7) :=
  (Pipeline.withArrays_of_ne _ c (V0 m c) _ main_arg7 (by exact (by decide : ∀ w, Pipeline.arrRef spec0 w ≠ main_arg7))).trans (V_main_arg7 m c)

theorem U1_arg8 (c : Dev nD) : U1 m c (Proc.devRef .tc main_arg8) = m ((c : Thread nD τ).loc main_arg8) :=
  (Pipeline.withArrays_of_ne _ c (V0 m c) _ main_arg8 (by exact (by decide : ∀ w, Pipeline.arrRef spec0 w ≠ main_arg8))).trans (V_main_arg8 m c)

/-- Output window 3 of the one-point call holds its input, cast. -/
theorem out_0 (x0 : Vec Ideal S2x128x5120 .fp8e4m3) (x1 : Vec Ideal S2x128x27648 .fp8e5m2) (x2 : Vec Ideal S5120x27648 .fp8e4m3) :
    out0_3 x0 x1 x2 = k0_pay1 x0 := by
  have hz : (![0, 0, 0] : Fin S2x128x5120.rank → Nat) = fun _ => 0 := funext fun a => by fin_cases a <;> rfl
  unfold out0_3
  rw [View.canon_unit_zero hz, View.ld_unit_zero hz]
theorem iblk_0 (c : Dev nD) : (iblk m c 0 t0_0 : Vec Ideal S2x128x5120 .fp8e4m3) = V m c main_v0 := by
  have hz : (fun a => (win0_0.index t0_0) a * main_v0.ty.shape.size a) = fun _ => 0 :=
    funext fun a => by fin_cases a <;> decide
  exact Memref.read_access_unit_zero (Elt Ideal) main_v0 hz (fun a => by fin_cases a <;> decide) _
theorem V_at0 (c : Dev nD) (b : Fin 2) (s : Fin 128) (k : Fin 5120) : (V m c main_v0 : Vec Ideal S2x128x5120 .fp8e4m3) (ix3 b s k) = (bitcastToFloat (s := S2x128x5120) .fp8e4m3 (m ((c : Thread nD τ).loc main_arg0)) : FVec Ideal S2x128x5120 .fp8e4m3) (ix3 b s k) := by
  after_reads_at

theorem pay_0 (x : Vec Ideal S2x128x5120 .fp8e4m3) (b : Fin 2) (s : Fin 128) (k : Fin 5120) : k0_pay1 x (ix3 b s k) = x (ix3 b s k) := by
  pointwise [k0_pay1]
theorem arr_0 (c : Dev nD) : (dats m 0 c).arrAt 3 (cfgs 0).N = k0_pay1 (F := Ideal) (V m c main_v0) :=
  (dats m 0 c).arrAt_eq_of_after_last 3 t0_0 (by decide +kernel) _ fun j => by
    blk_simp
    rw [after0_3, out_0]
    exact congrArg (fun x : Vec Ideal S2x128x5120 .fp8e4m3 => k0_pay1 x j) (iblk_0 m c)
theorem U1_0 (c : Dev nD) (b : Fin 2) (s : Fin 128) (k : Fin 5120) : (U1 m c (Proc.devRef .tc main_v3_0) : Vec Ideal S2x128x5120 .bf16) (ix3 b s k)
    = (bitcastToFloat (s := S2x128x5120) .fp8e4m3 (m ((c : Thread nD τ).loc main_arg0)) : FVec Ideal S2x128x5120 .fp8e4m3) (ix3 b s k) := by
  have h : U1 m c (Proc.devRef .tc main_v3_0) = (dats m 0 c).arrAt 3 (cfgs 0).N :=
    Pipeline.withArrays_arr (cfgs 0).spec launch0.win.arr_inj c (V0 m c) (fun w => (dats m 0 c).arrAt w (cfgs 0).N) 3
  rw [h, arr_0]
  exact (pay_0 _ b s k).trans (V_at0 m c b s k)

/-- Output window 4 of the one-point call holds its input, cast. -/
theorem out_1 (x0 : Vec Ideal S2x128x5120 .fp8e4m3) (x1 : Vec Ideal S2x128x27648 .fp8e5m2) (x2 : Vec Ideal S5120x27648 .fp8e4m3) :
    out0_4 x0 x1 x2 = k0_pay2 x1 := by
  have hz : (![0, 0, 0] : Fin S2x128x27648.rank → Nat) = fun _ => 0 := funext fun a => by fin_cases a <;> rfl
  unfold out0_4
  rw [View.canon_unit_zero hz, View.ld_unit_zero hz]
theorem iblk_1 (c : Dev nD) : (iblk m c 1 t0_0 : Vec Ideal S2x128x27648 .fp8e5m2) = V m c main_v1 := by
  have hz : (fun a => (win0_1.index t0_0) a * main_v1.ty.shape.size a) = fun _ => 0 :=
    funext fun a => by fin_cases a <;> decide
  exact Memref.read_access_unit_zero (Elt Ideal) main_v1 hz (fun a => by fin_cases a <;> decide) _
theorem V_at1 (c : Dev nD) (b : Fin 2) (s : Fin 128) (k : Fin 27648) : (V m c main_v1 : Vec Ideal S2x128x27648 .fp8e5m2) (ix3 b s k) = (bitcastToFloat (s := S2x128x27648) .fp8e5m2 (m ((c : Thread nD τ).loc main_arg2)) : FVec Ideal S2x128x27648 .fp8e5m2) (ix3 b s k) := by
  after_reads_at

theorem pay_1 (x : Vec Ideal S2x128x27648 .fp8e5m2) (b : Fin 2) (s : Fin 128) (k : Fin 27648) : k0_pay2 x (ix3 b s k) = x (ix3 b s k) := by
  pointwise [k0_pay2]
theorem arr_1 (c : Dev nD) : (dats m 0 c).arrAt 4 (cfgs 0).N = k0_pay2 (F := Ideal) (V m c main_v1) :=
  (dats m 0 c).arrAt_eq_of_after_last 4 t0_0 (by decide +kernel) _ fun j => by
    blk_simp
    rw [after0_4, out_1]
    exact congrArg (fun x : Vec Ideal S2x128x27648 .fp8e5m2 => k0_pay2 x j) (iblk_1 m c)
theorem U1_1 (c : Dev nD) (b : Fin 2) (s : Fin 128) (k : Fin 27648) : (U1 m c (Proc.devRef .tc main_v3_1) : Vec Ideal S2x128x27648 .bf16) (ix3 b s k)
    = (bitcastToFloat (s := S2x128x27648) .fp8e5m2 (m ((c : Thread nD τ).loc main_arg2)) : FVec Ideal S2x128x27648 .fp8e5m2) (ix3 b s k) := by
  have h : U1 m c (Proc.devRef .tc main_v3_1) = (dats m 0 c).arrAt 4 (cfgs 0).N :=
    Pipeline.withArrays_arr (cfgs 0).spec launch0.win.arr_inj c (V0 m c) (fun w => (dats m 0 c).arrAt w (cfgs 0).N) 4
  rw [h, arr_1]
  exact (pay_1 _ b s k).trans (V_at1 m c b s k)

/-- Output window 5 of the one-point call holds its input, cast. -/
theorem out_2 (x0 : Vec Ideal S2x128x5120 .fp8e4m3) (x1 : Vec Ideal S2x128x27648 .fp8e5m2) (x2 : Vec Ideal S5120x27648 .fp8e4m3) :
    out0_5 x0 x1 x2 = k0_pay3 x2 := by
  have hz : (![0, 0] : Fin S5120x27648.rank → Nat) = fun _ => 0 := funext fun a => by fin_cases a <;> rfl
  unfold out0_5
  rw [View.canon_unit_zero hz, View.ld_unit_zero hz]
theorem iblk_2 (c : Dev nD) : (iblk m c 2 t0_0 : Vec Ideal S5120x27648 .fp8e4m3) = V m c main_v2 := by
  have hz : (fun a => (win0_2.index t0_0) a * main_v2.ty.shape.size a) = fun _ => 0 :=
    funext fun a => by fin_cases a <;> decide
  exact Memref.read_access_unit_zero (Elt Ideal) main_v2 hz (fun a => by fin_cases a <;> decide) _
theorem V_at2 (c : Dev nD) (b : Fin 5120) (k : Fin 27648) : (V m c main_v2 : Vec Ideal S5120x27648 .fp8e4m3) (ix2 b k) = (bitcastToFloat (s := S5120x27648) .fp8e4m3 (m ((c : Thread nD τ).loc main_arg4)) : FVec Ideal S5120x27648 .fp8e4m3) (ix2 b k) := by
  after_reads_at

theorem pay_2 (x : Vec Ideal S5120x27648 .fp8e4m3) (b : Fin 5120) (k : Fin 27648) : k0_pay3 x (ix2 b k) = x (ix2 b k) := by
  pointwise [k0_pay3]
theorem arr_2 (c : Dev nD) : (dats m 0 c).arrAt 5 (cfgs 0).N = k0_pay3 (F := Ideal) (V m c main_v2) :=
  (dats m 0 c).arrAt_eq_of_after_last 5 t0_0 (by decide +kernel) _ fun j => by
    blk_simp
    rw [after0_5, out_2]
    exact congrArg (fun x : Vec Ideal S5120x27648 .fp8e4m3 => k0_pay3 x j) (iblk_2 m c)
theorem U1_2 (c : Dev nD) (b : Fin 5120) (k : Fin 27648) : (U1 m c (Proc.devRef .tc main_v3_2) : Vec Ideal S5120x27648 .bf16) (ix2 b k)
    = (bitcastToFloat (s := S5120x27648) .fp8e4m3 (m ((c : Thread nD τ).loc main_arg4)) : FVec Ideal S5120x27648 .fp8e4m3) (ix2 b k) := by
  have h : U1 m c (Proc.devRef .tc main_v3_2) = (dats m 0 c).arrAt 5 (cfgs 0).N :=
    Pipeline.withArrays_arr (cfgs 0).spec launch0.win.arr_inj c (V0 m c) (fun w => (dats m 0 c).arrAt w (cfgs 0).N) 5
  rw [h, arr_2]
  exact (pay_2 _ b k).trans (V_at2 m c b k)

/-- The host lines find the arguments' values. -/
theorem inU_U1 (c : Dev nD) : inU (U1 m c) = inp m c := by
  refine Cert.Lora.In.ext_of (funext fun b => funext fun s => funext fun k => U1_0 m c b s k) (funext fun b => funext fun s => congrFun (U1_arg1 m c) _)
    (funext fun b => funext fun s => funext fun k => U1_1 m c b s k) (funext fun b => funext fun s => congrFun (U1_arg3 m c) _)
    (funext fun b => funext fun k => U1_2 m c b k) (funext fun b => congrFun (U1_arg5 m c) _)
    (funext fun b => funext fun k => congrFun (U1_arg6 m c) _) (funext fun b => funext fun k => congrFun (U1_arg7 m c) _)
    (funext fun b => congrFun (U1_arg8 m c) _)

end Cert.ReferenceIdeal.Gen
-- ==== Proof.Ref.Post.lean ====
module

public import proofs.«01_k».proof.Proof.Ref.Tail

/-! The run of the reference at the ideal instance: its five results are the sums of the specification. -/

@[expose] public section

set_option maxRecDepth 16384

noncomputable section

namespace Cert.ReferenceIdeal.Gen

open Idealize.ShloMosaic Idealize.ShloMosaic.TcCoe Idealize.ShloMosaic.Tactic Pipeline Cert.Lora

variable (m : (ℓ : Loc nD τ sig) → Buf (Elt Ideal) ℓ) (g : Dev nD → PrngReg)

/-- What the reference's last lines leave in a buffer, from the buffers as the cast call leaves them. -/
theorem read_tail (c : Dev nD) (b : Ref sig .tc) : Pipeline.afterTail₀ cfgs (dats m) 0 (V0 m) [hostOps1] c b = StableHlo.after hostOps1 (U1 m c) (Proc.devRef .tc b) := by
  have e : ([hostOps1] : List (List (HloOp τ sig (Elt Ideal)))).flatten = hostOps1 := by simp only [List.flatten_cons, List.flatten_nil, List.append_nil]
  show StableHlo.after ([hostOps1] : List (List (HloOp τ sig (Elt Ideal)))).flatten (U1 m c) (Proc.devRef .tc b) = _
  rw [e]

theorem fin_dx (c : Dev nD) (hP : (inp m c).Ok) (B : Vec Ideal S2x128x5120 .bf16) (hB : B = Pipeline.afterTail₀ cfgs (dats m) 0 (V0 m) [hostOps1] c main_v39) : B = ((fun j => (inp m c).dx (j 0) (j 1) (j 2)) : Vec Ideal S2x128x5120 .bf16) := by
  rw [hB, read_tail]
  funext j
  idx_vars j
  exact (dx_at (U1 m c) _ _ _ ((inU_U1 m c).symm ▸ hP)).trans (by rw [inU_U1])

theorem fin_da (c : Dev nD) (hP : (inp m c).Ok) (B : Vec Ideal S5120x16 .f32) (hB : B = Pipeline.afterTail₀ cfgs (dats m) 0 (V0 m) [hostOps1] c main_v46) : B = ((fun j => (inp m c).da (j 0) (j 1)) : Vec Ideal S5120x16 .f32) := by
  rw [hB, read_tail]
  funext j
  idx_vars j
  exact (da_at (U1 m c) _ _).trans (by rw [inU_U1])

theorem fin_db (c : Dev nD) (hP : (inp m c).Ok) (B : Vec Ideal S16x27648 .f32) (hB : B = Pipeline.afterTail₀ cfgs (dats m) 0 (V0 m) [hostOps1] c main_v53) : B = ((fun j => (inp m c).db (j 0) (j 1)) : Vec Ideal S16x27648 .f32) := by
  rw [hB, read_tail]
  funext j
  idx_vars j
  exact (db_at (U1 m c) _ _).trans (by rw [inU_U1])

theorem fin_t (c : Dev nD) (hP : (inp m c).Ok) (B : Vec Ideal S2x128x16 .f32) (hB : B = Pipeline.afterTail₀ cfgs (dats m) 0 (V0 m) [hostOps1] c main_v17) : B = ((fun j => (inp m c).t (j 0) (j 1) (j 2)) : Vec Ideal S2x128x16 .f32) := by
  rw [hB, read_tail]
  funext j
  idx_vars j
  exact (t_at (U1 m c) _ _ _).trans (by rw [inU_U1])

theorem fin_xa (c : Dev nD) (hP : (inp m c).Ok) (B : Vec Ideal S2x128x16 .f32) (hB : B = Pipeline.afterTail₀ cfgs (dats m) 0 (V0 m) [hostOps1] c main_v23) : B = ((fun j => (inp m c).xa (j 0) (j 1) (j 2)) : Vec Ideal S2x128x16 .f32) := by
  rw [hB, read_tail]
  funext j
  idx_vars j
  exact (xa_at (U1 m c) _ _ _).trans (by rw [inU_U1])

theorem run_results (hP : ∀ c, (inp m c).Ok) : θ_run (defs (F := Ideal)) (onTc (τ := τ) (main (F := Ideal))) ⟨m, fun _ => 0, g⟩ (fun r => ∀ c : Dev nD,
r.2.mem ((c.tc : Thread nD τ).loc main_v39) = ((fun j => (inp m c).dx (j 0) (j 1) (j 2)) : Vec Ideal S2x128x5120 .bf16)
      ∧ r.2.mem ((c.tc : Thread nD τ).loc main_v46) = ((fun j => (inp m c).da (j 0) (j 1)) : Vec Ideal S5120x16 .f32)
      ∧ r.2.mem ((c.tc : Thread nD τ).loc main_v53) = ((fun j => (inp m c).db (j 0) (j 1)) : Vec Ideal S16x27648 .f32)
      ∧ r.2.mem ((c.tc : Thread nD τ).loc main_v17) = ((fun j => (inp m c).t (j 0) (j 1) (j 2)) : Vec Ideal S2x128x16 .f32)
      ∧ r.2.mem ((c.tc : Thread nD τ).loc main_v23) = ((fun j => (inp m c).xa (j 0) (j 1) (j 2)) : Vec Ideal S2x128x16 .f32)) :=
  (θ_run defs _ _).mono (fun r h c => ⟨fin_dx m c (hP c) _ ((h c).2 main_v39 (Pipeline.mem_restRefs_of main_v39 (by decide) (by decide))),
    fin_da m c (hP c) _ ((h c).2 main_v46 (Pipeline.mem_restRefs_of main_v46 (by decide) (by decide))),
    fin_db m c (hP c) _ ((h c).2 main_v53 (Pipeline.mem_restRefs_of main_v53 (by decide) (by decide))),
    fin_t m c (hP c) _ ((h c).2 main_v17 (Pipeline.mem_restRefs_of main_v17 (by decide) (by decide))),
    fin_xa m c (hP c) _ ((h c).2 main_v23 (Pipeline.mem_restRefs_of main_v23 (by decide) (by decide)))⟩) (run_main m g)

end Cert.ReferenceIdeal.Gen
-- ==== Proof.Pre.lean ====
module

public import proofs.«01_k».proof.Pre_finite
public import proofs.«01_k».proof.Proof.Spec

/-! What the precondition says of each input: the decoded activations and gradients, their scales and both adapters are
real numbers, and no sequence is longer than the 128 rows. -/

@[expose] public section

noncomputable section

namespace Cert.Lora

open Idealize.ShloMosaic

theorem fi_e4m3 (b : BitVec 8) (h : IntOp.cmpi .ne (IntOp.andi (b.setWidth 32) 127#32) 127#32 = 1#1) : Fi (Ideal.ofBits .fp8e4m3 b) := by
  have hb : ¬((b.extractLsb' 3 4).toNat = 15 ∧ (b.extractLsb' 0 3).toNat = 7) := by
    revert b
    decide +kernel
  show Fi (Ideal.e4m3fn b)
  unfold Ideal.e4m3fn
  dsimp only
  rw [if_neg hb]
  split
  · exact ⟨_, rfl⟩
  · exact ⟨_, rfl⟩

theorem fi_e5m2 (b : BitVec 8) (h : IntOp.cmpi .ne (IntOp.andi (b.setWidth 32) 124#32) 124#32 = 1#1) : Fi (Ideal.ofBits .fp8e5m2 b) := by
  have hb : ¬((b.extractLsb' 2 5).toNat = 2 ^ 5 - 1) := by
    revert b
    decide +kernel
  show Fi (Ideal.ieee 5 2 b)
  unfold Ideal.ieee
  dsimp only
  rw [if_neg hb]
  split
  · exact ⟨_, rfl⟩
  · exact ⟨_, rfl⟩

/-- A value whose absolute value is below infinity is a real number. -/
theorem fi_abs (x : EReal) (h : Ideal.cmp .olt (max x (-x)) ⊤ = 1#1) : Fi x := by
  have hlt : max x (-x) < ⊤ := by
    by_contra hn
    have : Ideal.cmp .olt (max x (-x)) ⊤ = 0#1 := by simp only [Ideal.cmp, hn, decide_false]; rfl
    rw [this] at h
    exact absurd h (by decide)
  refine Fi.of_ne (fun hx => ?_) (fun hx => ?_)
  · subst hx; simp at hlt
  · subst hx; simp at hlt

theorem top_f32 : Ideal.ofBits .f32 0x7F800000#32 = ⊤ := by simp [Ideal.ofBits, Ideal.ieee]
theorem top_bf16 : Ideal.ofBits .bf16 0x7F80#16 = ⊤ := by simp [Ideal.ofBits, Ideal.ieee]

open Cert.Pre_finite

/-- The inputs as nine arrays give them. -/
def ofArrays (a0 : IVec S2x128x5120 8) (a1 : FVec Ideal S2x128 .f32) (a2 : IVec S2x128x27648 8) (a3 : FVec Ideal S2x128 .f32) (a4 : IVec S5120x27648 8)
    (a5 : FVec Ideal S27648 .f32) (a6 : FVec Ideal S5120x16 .bf16) (a7 : FVec Ideal S16x27648 .bf16) (a8 : IVec S2 32) : In where
  X b s k := Ideal.ofBits .fp8e4m3 (a0 (ix3 b s k))
  XS b s := a1 (ix2 b s)
  DY b s o := Ideal.ofBits .fp8e5m2 (a2 (ix3 b s o))
  DYS b s := a3 (ix2 b s)
  W d o := Ideal.ofBits .fp8e4m3 (a4 (ix2 d o))
  WS o := a5 (ix1 o)
  A d r := a6 (ix2 d r)
  B r o := a7 (ix2 r o)
  LEN b := a8 (ix1 b)

theorem ok_of_pre [Cert.Pre_finite.Facts] (a0 : IVec S2x128x5120 8) (a1 : FVec Ideal S2x128 .f32) (a2 : IVec S2x128x27648 8) (a3 : FVec Ideal S2x128 .f32) (a4 : IVec S5120x27648 8)
    (a5 : FVec Ideal S27648 .f32) (a6 : FVec Ideal S5120x16 .bf16) (a7 : FVec Ideal S16x27648 .bf16) (a8 : IVec S2 32)
    (h0 : (Cert.Pre_finite.fn (F := Ideal) a0 a1 a2 a3 a4 a5 a6 a7 a8).1 = fun _ => 1#1)
    (h1 : (Cert.Pre_finite.fn (F := Ideal) a0 a1 a2 a3 a4 a5 a6 a7 a8).2.1 = fun _ => 1#1)
    (h2 : (Cert.Pre_finite.fn (F := Ideal) a0 a1 a2 a3 a4 a5 a6 a7 a8).2.2.1 = fun _ => 1#1)
    (h3 : (Cert.Pre_finite.fn (F := Ideal) a0 a1 a2 a3 a4 a5 a6 a7 a8).2.2.2.1 = fun _ => 1#1)
    (h4 : (Cert.Pre_finite.fn (F := Ideal) a0 a1 a2 a3 a4 a5 a6 a7 a8).2.2.2.2.1 = fun _ => 1#1)
    (h5 : (Cert.Pre_finite.fn (F := Ideal) a0 a1 a2 a3 a4 a5 a6 a7 a8).2.2.2.2.2.1 = fun _ => 1#1)
    (h6 : (Cert.Pre_finite.fn (F := Ideal) a0 a1 a2 a3 a4 a5 a6 a7 a8).2.2.2.2.2.2 = fun _ => 1#1) : (ofArrays a0 a1 a2 a3 a4 a5 a6 a7 a8).Ok where
  X b s k := fi_e4m3 _ (congrFun h0 (ix3 b s k))
  XS b s := fi_abs _ (top_f32 ▸ congrFun h1 (ix2 b s))
  DY b s o := fi_e5m2 _ (congrFun h2 (ix3 b s o))
  DYS b s := fi_abs _ (top_f32 ▸ congrFun h3 (ix2 b s))
  A d r := fi_abs _ (top_bf16 ▸ congrFun h4 (ix2 d r))
  B r o := fi_abs _ (top_bf16 ▸ congrFun h5 (ix2 r o))
  LEN b := by
    have h := congrFun h6 (ix1 b)
    have h' : IntOp.cmpi .sle (a8 (ix1 b)) 128#32 = 1#1 := h
    show (a8 (ix1 b)).toInt ≤ 128
    generalize a8 (ix1 b) = x at h'
    have h2 : BitVec.sle x 128#32 = true := by
      cases hx : BitVec.sle x 128#32
      · have h3 : IntOp.cmpi .sle x 128#32 = BitVec.ofBool (BitVec.sle x 128#32) := rfl
        rw [h3, hx] at h'
        exact absurd h' (by decide)
      · rfl
    exact of_decide_eq_true h2

end Cert.Lora
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch

public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import proofs.«01_k».proof.Proof.Kernel.BitsFrame
public import proofs.«01_k».proof.Proof.Kernel.Post
public import proofs.«01_k».proof.Proof.Ref.Post
public import proofs.«01_k».proof.Proof.Pre
public import Idealize.ShloMosaic.Adequacy
public import Idealize.ShloMosaic.Init

@[expose] public section

noncomputable section

namespace Cert.Proof

open Idealize.ShloMosaic Idealize.SL.Sem Cert.Kernel

/-- Under the precondition the inputs of every device are finite, and no sequence is longer than the rows. -/
theorem ok_of_finite [Cert.Pre_finite.Facts] (m : (ℓ : Loc Cert.KernelIdeal.nD Cert.KernelIdeal.τ Cert.KernelIdeal.sig) → Buf (Elt Ideal) ℓ) (h : Pre_KernelIdeal_finite m)
    (c : Dev Cert.KernelIdeal.nD) : (Cert.KernelIdeal.Gen.inp m c).Ok :=
  match h c with
  | ⟨h0, h1, h2, h3, h4, h5, h6⟩ => Cert.Lora.ok_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) h0 h1 h2 h3 h4 h5 h6

/-- The two programs read the same inputs off equal arguments. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Gen.inp m' c = Cert.KernelIdeal.Gen.inp m c := by
  unfold Cert.ReferenceIdeal.Gen.inp Cert.KernelIdeal.Gen.inp
  rw [h0, h1, h2, h3, h4, h5, h6, h7, h8]

theorem algebraic : algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hargs
  have hP : ∀ c, (Cert.KernelIdeal.Gen.inp m c).Ok := ok_of_finite m hpre
  have he : ∀ c, Cert.ReferenceIdeal.Gen.inp m' c = Cert.KernelIdeal.Gen.inp m c := fun c =>
    match hargs c with
    | ⟨h0, h1, h2, h3, h4, h5, h6, h7, h8⟩ => inp_eq m m' c h0 h1 h2 h3 h4 h5 h6 h7 h8
  have hP' : ∀ c, (Cert.ReferenceIdeal.Gen.inp m' c).Ok := fun c => he c ▸ hP c
  refine ⟨fun c j => (Cert.KernelIdeal.Gen.inp m c).dx (j 0) (j 1) (j 2), fun c j => (Cert.KernelIdeal.Gen.inp m c).da (j 0) (j 1), fun c j => (Cert.KernelIdeal.Gen.inp m c).db (j 0) (j 1), fun c j => (Cert.KernelIdeal.Gen.inp m c).t (j 0) (j 1) (j 2), fun c j => (Cert.KernelIdeal.Gen.inp m c).xa (j 0) (j 1) (j 2), ?_, ?_⟩
  · refine (θ_run _ _ _).mono (fun r h c => ?_) (θ_run_and (Cert.KernelIdeal.Gen.run_results m g hP) (Cert.KernelIdeal.Gen.unchanged m g trivial))
    obtain ⟨h0, h1, h2, h3, h4⟩ := h.1 c
    exact ⟨h0, h1, h2, h3, h4, h.2 c⟩
  · refine (θ_run _ _ _).mono (fun r h c => ?_) (θ_run_and (Cert.ReferenceIdeal.Gen.run_results m' g' hP') (Cert.ReferenceIdeal.Gen.unchanged m' g'))
    obtain ⟨h0, h1, h2, h3, h4⟩ := h.1 c
    rw [he c] at h0 h1 h2 h3 h4
    exact ⟨h0, h1, h2, h3, h4, h.2 c⟩

theorem claim : Cert.Claim := ⟨Cert.Kernel.Gen.facts, Cert.KernelIdeal.Gen.facts, Cert.ReferenceIdeal.Gen.facts, Cert.Pre_finite.Gen.facts,
  quiescent_Kernel, fun m g _ => Cert.KernelIdeal.Gen.frame m g trivial, fun m g _ => Cert.KernelIdeal.Gen.frame m g trivial,
  fun m g _ => Cert.ReferenceIdeal.Gen.frame m g, fun m g _ => Cert.ReferenceIdeal.Gen.frame m g, trivial, algebraic⟩

end Cert.Proof

end
